-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sobel_clear [hPre_sobel_clear : Cert.Pre_sobel_clear.Facts] (m : (ℓ : Loc Cert.KernelIdeal.nD Cert.KernelIdeal.τ Cert.KernelIdeal.sig) → Buf (Elt Ideal) ℓ) : Prop :=
  ∀ c : Dev Cert.KernelIdeal.nD,
    (Cert.Pre_sobel_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_sobel_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_sobel_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_sobel_clear.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sobel_clear [hPre_sobel_clear : Cert.Pre_sobel_clear.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sobel_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_sobel_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_sobel_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_sobel_clear.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sobel_clear [hKernelIdeal : Cert.KernelIdeal.Facts] [hPre_sobel_clear : Cert.Pre_sobel_clear.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sobel_clear m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sobel_clear [hReferenceIdeal : Cert.ReferenceIdeal.Facts] [hPre_sobel_clear : Cert.Pre_sobel_clear.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sobel_clear m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_sobel_clear [hKernelIdeal : Cert.KernelIdeal.Facts] [hReferenceIdeal : Cert.ReferenceIdeal.Facts] [hPre_sobel_clear : Cert.Pre_sobel_clear.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sobel_clear m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sobel_clear : Cert.Pre_sobel_clear.Facts),
    quiescent_Kernel (hKernel := hKernel)
    ∧ quiescent_KernelIdeal (hKernelIdeal := hKernelIdeal)
    ∧ quiescent_KernelIdeal_pre_sobel_clear (hKernelIdeal := hKernelIdeal) (hPre_sobel_clear := hPre_sobel_clear)
    ∧ quiescent_ReferenceIdeal (hReferenceIdeal := hReferenceIdeal)
    ∧ quiescent_ReferenceIdeal_pre_sobel_clear (hReferenceIdeal := hReferenceIdeal) (hPre_sobel_clear := hPre_sobel_clear)
    ∧ preserves_Kernel_KernelIdeal
    ∧ algebraic_KernelIdeal_ReferenceIdeal_pre_sobel_clear (hKernelIdeal := hKernelIdeal) (hReferenceIdeal := hReferenceIdeal) (hPre_sobel_clear := hPre_sobel_clear)
-- ==== Pre_sobel_clear.lean ====
abbrev S16x3x512x512 : Shape := ⟨4, ![16, 3, 512, 512]⟩
abbrev S1x3x3x3 : Shape := ⟨4, ![1, 3, 3, 3]⟩
abbrev S3x3 : Shape := ⟨2, ![3, 3]⟩
abbrev S1x1x3x3 : Shape := ⟨4, ![1, 1, 3, 3]⟩
abbrev S1x1x1x1x1x3x1x3 : Shape := ⟨8, ![1, 1, 1, 1, 1, 3, 1, 3]⟩
abbrev S1x1x3x1x1x3x1x3 : Shape := ⟨8, ![1, 1, 3, 1, 1, 3, 1, 3]⟩
abbrev S_ : Shape := ⟨0, ![]⟩
abbrev S16x3x514x514 : Shape := ⟨4, ![16, 3, 514, 514]⟩
abbrev S16x1x512x512 : Shape := ⟨4, ![16, 1, 512, 512]⟩
abbrev S1x3x1x1 : Shape := ⟨4, ![1, 3, 1, 1]⟩
abbrev S3 : Shape := ⟨1, ![3]⟩
abbrev S16x512x512 : Shape := ⟨3, ![16, 512, 512]⟩

class Facts : Prop where
  transposes_S3x3_S3x3_1_0 : S3x3.Transposes [1, 0] S3x3
  bcast_S3x3_S1x1x3x3_2_3 : S3x3.BroadcastsInDim S1x1x3x3 (![2, 3] : Fin 2 → Fin S1x1x3x3.rank)
  shapeCasts_S1x1x3x3_S1x1x1x1x1x3x1x3 : S1x1x3x3.ShapeCasts S1x1x1x1x1x3x1x3
  bcast_S1x1x1x1x1x3x1x3_S1x1x3x1x1x3x1x3_0_1_2_3_4_5_6_7 : S1x1x1x1x1x3x1x3.BroadcastsInDim S1x1x3x1x1x3x1x3 (![0, 1, 2, 3, 4, 5, 6, 7] : Fin 8 → Fin S1x1x3x1x1x3x1x3.rank)
  shapeCasts_S1x1x3x1x1x3x1x3_S1x3x3x3 : S1x1x3x1x1x3x1x3.ShapeCasts S1x3x3x3
  pads_S16x3x512x512_S16x3x514x514_000_000_110_110 : S16x3x512x512.Pads (![0, 0, 1, 1] : Fin 4 → Nat) ![0, 0, 1, 1] ![0, 0, 0, 0] S16x3x514x514
  h_S_ : 0 < S_.numel
  bcast_S_S16x1x512x512 : S_.BroadcastsInDim S16x1x512x512 (![] : Fin 0 → Fin S16x1x512x512.rank)
  slices_S16x3x514x514_S16x3x512x512_0_0_0_0 : S16x3x514x514.Slices ![0, 0, 0, 0] S16x3x512x512
  slices_S1x3x3x3_S1x3x1x1_0_0_0_0 : S1x3x3x3.Slices ![0, 0, 0, 0] S1x3x1x1
  shapeCasts_S1x3x1x1_S3 : S1x3x1x1.ShapeCasts S3
  bcast_S3_S1x3x1x1_1 : S3.BroadcastsInDim S1x3x1x1 (![1] : Fin 1 → Fin S1x3x1x1.rank)
  bcast_S1x3x1x1_S16x3x512x512_0_1_2_3 : S1x3x1x1.BroadcastsInDim S16x3x512x512 (![0, 1, 2, 3] : Fin 4 → Fin S16x3x512x512.rank)
  reducesTo_S16x3x512x512_S16x512x512_d1 : S16x3x512x512.ReducesTo [1] S16x512x512
  bcast_S16x512x512_S16x1x512x512_0_2_3 : S16x512x512.BroadcastsInDim S16x1x512x512 (![0, 2, 3] : Fin 3 → Fin S16x1x512x512.rank)
  slices_S16x3x514x514_S16x3x512x512_0_0_0_1 : S16x3x514x514.Slices ![0, 0, 0, 1] S16x3x512x512
  slices_S1x3x3x3_S1x3x1x1_0_0_0_1 : S1x3x3x3.Slices ![0, 0, 0, 1] S1x3x1x1
  slices_S16x3x514x514_S16x3x512x512_0_0_0_2 : S16x3x514x514.Slices ![0, 0, 0, 2] S16x3x512x512
  slices_S1x3x3x3_S1x3x1x1_0_0_0_2 : S1x3x3x3.Slices ![0, 0, 0, 2] S1x3x1x1
  slices_S16x3x514x514_S16x3x512x512_0_0_1_0 : S16x3x514x514.Slices ![0, 0, 1, 0] S16x3x512x512
  slices_S1x3x3x3_S1x3x1x1_0_0_1_0 : S1x3x3x3.Slices ![0, 0, 1, 0] S1x3x1x1
  slices_S16x3x514x514_S16x3x512x512_0_0_1_1 : S16x3x514x514.Slices ![0, 0, 1, 1] S16x3x512x512
  slices_S1x3x3x3_S1x3x1x1_0_0_1_1 : S1x3x3x3.Slices ![0, 0, 1, 1] S1x3x1x1
  slices_S16x3x514x514_S16x3x512x512_0_0_1_2 : S16x3x514x514.Slices ![0, 0, 1, 2] S16x3x512x512
  slices_S1x3x3x3_S1x3x1x1_0_0_1_2 : S1x3x3x3.Slices ![0, 0, 1, 2] S1x3x1x1
  slices_S16x3x514x514_S16x3x512x512_0_0_2_0 : S16x3x514x514.Slices ![0, 0, 2, 0] S16x3x512x512
  slices_S1x3x3x3_S1x3x1x1_0_0_2_0 : S1x3x3x3.Slices ![0, 0, 2, 0] S1x3x1x1
  slices_S16x3x514x514_S16x3x512x512_0_0_2_1 : S16x3x514x514.Slices ![0, 0, 2, 1] S16x3x512x512
  slices_S1x3x3x3_S1x3x1x1_0_0_2_1 : S1x3x3x3.Slices ![0, 0, 2, 1] S1x3x1x1
  slices_S16x3x514x514_S16x3x512x512_0_0_2_2 : S16x3x514x514.Slices ![0, 0, 2, 2] S16x3x512x512
  slices_S1x3x3x3_S1x3x1x1_0_0_2_2 : S1x3x3x3.Slices ![0, 0, 2, 2] S1x3x1x1
  bcast_S_S16x3x512x512 : S_.BroadcastsInDim S16x3x512x512 (![] : Fin 0 → Fin S16x3x512x512.rank)

variable [Facts]

noncomputable abbrev lit0 : Fin 9 → BitVec 32 := fun
  | 0 => 0xBF800000#32 | 1 => 0x00000000#32 | 2 => 0x3F800000#32 | 3 => 0xC0000000#32 | 4 => 0x00000000#32 | 5 => 0x40000000#32 | 6 => 0xBF800000#32 | 7 => 0x00000000#32
  | 8 => 0x3F800000#32
  | _ => 0#32

def fn_pad {F : FTy → Type} [FloatOps F] (arg0 : FVec F S16x3x512x512 .f32) (arg1 : IVec S_ 32) : FVec F S16x3x514x514 .f32 :=
  let v0 : FVec F S_ .f32 := sitofp .f32 arg1
  let v1 : FVec F S16x3x514x514 .f32 := (fun x v => pad S16x3x514x514 ![0, 0, 1, 1] ![0, 0, 1, 1] ![0, 0, 0, 0] x v pads_S16x3x512x512_S16x3x514x514_000_000_110_110 h_S_) arg0 v0
  v1

def fn_part9 {F : FTy → Type} [FloatOps F] (main_arg1 : FVec F S1x3x3x3 .f32) (main_arg2 : FVec F S1x3x3x3 .f32) (main_v4 : FVec F S1x3x3x3 .f32) (main_v8 : FVec F S1x3x3x3 .f32) (main_v183 : IVec S16x1x512x512 1) (main_v186 : IVec S16x1x512x512 1) (main_v187 : FVec F S16x3x512x512 .f32) (main_v188 : FVec F S16x3x512x512 .f32) : IVec S16x3x512x512 1 × IVec S1x3x3x3 1 × IVec S1x3x3x3 1 × IVec S16x1x512x512 1 :=
  let main_v189 : IVec S16x3x512x512 1 := cmpf .olt main_v187 main_v188
  let main_v190 : IVec S1x3x3x3 1 := cmpf .oeq main_arg1 main_v4
  let main_v191 : IVec S1x3x3x3 1 := cmpf .oeq main_arg2 main_v8
  let main_v192 : IVec S16x1x512x512 1 := ori main_v183 main_v186
  (main_v189, main_v190, main_v191, main_v192)

def fn_part8 {F : FTy → Type} [FloatOps F] (main_arg0 : FVec F S16x3x512x512 .f32) (main_arg1 : FVec F S1x3x3x3 .f32) (main_arg2 : FVec F S1x3x3x3 .f32) (main_v4 : FVec F S1x3x3x3 .f32) (main_v8 : FVec F S1x3x3x3 .f32) (main_v92 : FVec F S16x1x512x512 .f32) (main_v166 : FVec F S16x1x512x512 .f32) (main_v167 : FVec F S16x3x512x512 .f32) (main_v169 : FVec F S3 .f32) : IVec S16x3x512x512 1 × IVec S1x3x3x3 1 × IVec S1x3x3x3 1 × IVec S16x1x512x512 1 :=
  let main_v170 : FVec F S1x3x1x1 .f32 := broadcastInDim S1x3x1x1 ![1] bcast_S3_S1x3x1x1_1 main_v169
  let main_v171 : FVec F S16x3x512x512 .f32 := broadcastInDim S16x3x512x512 ![0, 1, 2, 3] bcast_S1x3x1x1_S16x3x512x512_0_1_2_3 main_v170
  let main_v172 : FVec F S16x3x512x512 .f32 := mulf main_v167 main_v171
  let main_cst_20 : FVec F S_ .f32 := constant S_ .f32 0x00000000#32
  let main_v173 : FVec F S16x512x512 .f32 := (fun x v => Host.reduceAdd x v reducesTo_S16x3x512x512_S16x512x512_d1 h_S_) main_v172 main_cst_20
  let main_v174 : FVec F S16x1x512x512 .f32 := broadcastInDim S16x1x512x512 ![0, 2, 3] bcast_S16x512x512_S16x1x512x512_0_2_3 main_v173
  let main_v175 : FVec F S16x1x512x512 .f32 := addf main_v166 main_v174
  let main_v176 : FVec F S16x1x512x512 .f32 := Host.absf main_v175
  let main_v177 : FVec F S16x1x512x512 .f32 := minimumf main_v92 main_v176
  let main_v178 : FVec F S16x1x512x512 .f32 := maximumf main_v92 main_v176
  let main_cst_21 : FVec F S_ .f32 := constant S_ .f32 0x40000000#32
  let main_v179 : FVec F S_ .f32 := Host.sqrt main_cst_21
  let main_cst_22 : FVec F S_ .f32 := constant S_ .f32 0x3F800000#32
  let main_v180 : FVec F S_ .f32 := subf main_v179 main_cst_22
  let main_v181 : FVec F S16x1x512x512 .f32 := broadcastInDim S16x1x512x512 ![] bcast_S_S16x1x512x512 main_v180
  let main_v182 : FVec F S16x1x512x512 .f32 := mulf main_v178 main_v181
  let main_v183 : IVec S16x1x512x512 1 := cmpf .olt main_v177 main_v182
  let main_cst_23 : FVec F S_ .f32 := constant S_ .f32 0x3ED413CD#32
  let main_v184 : FVec F S16x1x512x512 .f32 := broadcastInDim S16x1x512x512 ![] bcast_S_S16x1x512x512 main_cst_23
  let main_v185 : FVec F S16x1x512x512 .f32 := mulf main_v178 main_v184
  let main_v186 : IVec S16x1x512x512 1 := cmpf .oge main_v177 main_v185
  let main_v187 : FVec F S16x3x512x512 .f32 := Host.absf main_arg0
  let main_cst_24 : FVec F S_ .f32 := constant S_ .f32 0x7F800000#32
  let main_v188 : FVec F S16x3x512x512 .f32 := broadcastInDim S16x3x512x512 ![] bcast_S_S16x3x512x512 main_cst_24
  fn_part9 (F := F) main_arg1 main_arg2 main_v4 main_v8 main_v183 main_v186 main_v187 main_v188

def fn_part7 {F : FTy → Type} [FloatOps F] (main_arg0 : FVec F S16x3x512x512 .f32) (main_arg1 : FVec F S1x3x3x3 .f32) (main_arg2 : FVec F S1x3x3x3 .f32) (main_v4 : FVec F S1x3x3x3 .f32) (main_v8 : FVec F S1x3x3x3 .f32) (main_v92 : FVec F S16x1x512x512 .f32) (main_v93 : FVec F S16x3x514x514 .f32) (main_v139 : FVec F S16x1x512x512 .f32) (main_v147 : FVec F S16x1x512x512 .f32) : IVec S16x3x512x512 1 × IVec S1x3x3x3 1 × IVec S1x3x3x3 1 × IVec S16x1x512x512 1 :=
  let main_v148 : FVec F S16x1x512x512 .f32 := addf main_v139 main_v147
  let main_v149 : FVec F S16x3x512x512 .f32 := (extractStridedSlice S16x3x512x512 ![0, 0, 2, 0] · slices_S16x3x514x514_S16x3x512x512_0_0_2_0) main_v93
  let main_v150 : FVec F S1x3x1x1 .f32 := (extractStridedSlice S1x3x1x1 ![0, 0, 2, 0] · slices_S1x3x3x3_S1x3x1x1_0_0_2_0) main_arg2
  let main_v151 : FVec F S3 .f32 := shapeCast S3 main_v150 shapeCasts_S1x3x1x1_S3
  let main_v152 : FVec F S1x3x1x1 .f32 := broadcastInDim S1x3x1x1 ![1] bcast_S3_S1x3x1x1_1 main_v151
  let main_v153 : FVec F S16x3x512x512 .f32 := broadcastInDim S16x3x512x512 ![0, 1, 2, 3] bcast_S1x3x1x1_S16x3x512x512_0_1_2_3 main_v152
  let main_v154 : FVec F S16x3x512x512 .f32 := mulf main_v149 main_v153
  let main_cst_18 : FVec F S_ .f32 := constant S_ .f32 0x00000000#32
  let main_v155 : FVec F S16x512x512 .f32 := (fun x v => Host.reduceAdd x v reducesTo_S16x3x512x512_S16x512x512_d1 h_S_) main_v154 main_cst_18
  let main_v156 : FVec F S16x1x512x512 .f32 := broadcastInDim S16x1x512x512 ![0, 2, 3] bcast_S16x512x512_S16x1x512x512_0_2_3 main_v155
  let main_v157 : FVec F S16x1x512x512 .f32 := addf main_v148 main_v156
  let main_v158 : FVec F S16x3x512x512 .f32 := (extractStridedSlice S16x3x512x512 ![0, 0, 2, 1] · slices_S16x3x514x514_S16x3x512x512_0_0_2_1) main_v93
  let main_v159 : FVec F S1x3x1x1 .f32 := (extractStridedSlice S1x3x1x1 ![0, 0, 2, 1] · slices_S1x3x3x3_S1x3x1x1_0_0_2_1) main_arg2
  let main_v160 : FVec F S3 .f32 := shapeCast S3 main_v159 shapeCasts_S1x3x1x1_S3
  let main_v161 : FVec F S1x3x1x1 .f32 := broadcastInDim S1x3x1x1 ![1] bcast_S3_S1x3x1x1_1 main_v160
  let main_v162 : FVec F S16x3x512x512 .f32 := broadcastInDim S16x3x512x512 ![0, 1, 2, 3] bcast_S1x3x1x1_S16x3x512x512_0_1_2_3 main_v161
  let main_v163 : FVec F S16x3x512x512 .f32 := mulf main_v158 main_v162
  let main_cst_19 : FVec F S_ .f32 := constant S_ .f32 0x00000000#32
  let main_v164 : FVec F S16x512x512 .f32 := (fun x v => Host.reduceAdd x v reducesTo_S16x3x512x512_S16x512x512_d1 h_S_) main_v163 main_cst_19
  let main_v165 : FVec F S16x1x512x512 .f32 := broadcastInDim S16x1x512x512 ![0, 2, 3] bcast_S16x512x512_S16x1x512x512_0_2_3 main_v164
  let main_v166 : FVec F S16x1x512x512 .f32 := addf main_v157 main_v165
  let main_v167 : FVec F S16x3x512x512 .f32 := (extractStridedSlice S16x3x512x512 ![0, 0, 2, 2] · slices_S16x3x514x514_S16x3x512x512_0_0_2_2) main_v93
  let main_v168 : FVec F S1x3x1x1 .f32 := (extractStridedSlice S1x3x1x1 ![0, 0, 2, 2] · slices_S1x3x3x3_S1x3x1x1_0_0_2_2) main_arg2
  let main_v169 : FVec F S3 .f32 := shapeCast S3 main_v168 shapeCasts_S1x3x1x1_S3
  fn_part8 (F := F) main_arg0 main_arg1 main_arg2 main_v4 main_v8 main_v92 main_v166 main_v167 main_v169

def fn_part6 {F : FTy → Type} [FloatOps F] (main_arg0 : FVec F S16x3x512x512 .f32) (main_arg1 : FVec F S1x3x3x3 .f32) (main_arg2 : FVec F S1x3x3x3 .f32) (main_v4 : FVec F S1x3x3x3 .f32) (main_v8 : FVec F S1x3x3x3 .f32) (main_v92 : FVec F S16x1x512x512 .f32) (main_v93 : FVec F S16x3x514x514 .f32) (main_v121 : FVec F S16x1x512x512 .f32) (main_v122 : FVec F S16x3x512x512 .f32) (main_v126 : FVec F S16x3x512x512 .f32) : IVec S16x3x512x512 1 × IVec S1x3x3x3 1 × IVec S1x3x3x3 1 × IVec S16x1x512x512 1 :=
  let main_v127 : FVec F S16x3x512x512 .f32 := mulf main_v122 main_v126
  let main_cst_15 : FVec F S_ .f32 := constant S_ .f32 0x00000000#32
  let main_v128 : FVec F S16x512x512 .f32 := (fun x v => Host.reduceAdd x v reducesTo_S16x3x512x512_S16x512x512_d1 h_S_) main_v127 main_cst_15
  let main_v129 : FVec F S16x1x512x512 .f32 := broadcastInDim S16x1x512x512 ![0, 2, 3] bcast_S16x512x512_S16x1x512x512_0_2_3 main_v128
  let main_v130 : FVec F S16x1x512x512 .f32 := addf main_v121 main_v129
  let main_v131 : FVec F S16x3x512x512 .f32 := (extractStridedSlice S16x3x512x512 ![0, 0, 1, 1] · slices_S16x3x514x514_S16x3x512x512_0_0_1_1) main_v93
  let main_v132 : FVec F S1x3x1x1 .f32 := (extractStridedSlice S1x3x1x1 ![0, 0, 1, 1] · slices_S1x3x3x3_S1x3x1x1_0_0_1_1) main_arg2
  let main_v133 : FVec F S3 .f32 := shapeCast S3 main_v132 shapeCasts_S1x3x1x1_S3
  let main_v134 : FVec F S1x3x1x1 .f32 := broadcastInDim S1x3x1x1 ![1] bcast_S3_S1x3x1x1_1 main_v133
  let main_v135 : FVec F S16x3x512x512 .f32 := broadcastInDim S16x3x512x512 ![0, 1, 2, 3] bcast_S1x3x1x1_S16x3x512x512_0_1_2_3 main_v134
  let main_v136 : FVec F S16x3x512x512 .f32 := mulf main_v131 main_v135
  let main_cst_16 : FVec F S_ .f32 := constant S_ .f32 0x00000000#32
  let main_v137 : FVec F S16x512x512 .f32 := (fun x v => Host.reduceAdd x v reducesTo_S16x3x512x512_S16x512x512_d1 h_S_) main_v136 main_cst_16
  let main_v138 : FVec F S16x1x512x512 .f32 := broadcastInDim S16x1x512x512 ![0, 2, 3] bcast_S16x512x512_S16x1x512x512_0_2_3 main_v137
  let main_v139 : FVec F S16x1x512x512 .f32 := addf main_v130 main_v138
  let main_v140 : FVec F S16x3x512x512 .f32 := (extractStridedSlice S16x3x512x512 ![0, 0, 1, 2] · slices_S16x3x514x514_S16x3x512x512_0_0_1_2) main_v93
  let main_v141 : FVec F S1x3x1x1 .f32 := (extractStridedSlice S1x3x1x1 ![0, 0, 1, 2] · slices_S1x3x3x3_S1x3x1x1_0_0_1_2) main_arg2
  let main_v142 : FVec F S3 .f32 := shapeCast S3 main_v141 shapeCasts_S1x3x1x1_S3
  let main_v143 : FVec F S1x3x1x1 .f32 := broadcastInDim S1x3x1x1 ![1] bcast_S3_S1x3x1x1_1 main_v142
  let main_v144 : FVec F S16x3x512x512 .f32 := broadcastInDim S16x3x512x512 ![0, 1, 2, 3] bcast_S1x3x1x1_S16x3x512x512_0_1_2_3 main_v143
  let main_v145 : FVec F S16x3x512x512 .f32 := mulf main_v140 main_v144
  let main_cst_17 : FVec F S_ .f32 := constant S_ .f32 0x00000000#32
  let main_v146 : FVec F S16x512x512 .f32 := (fun x v => Host.reduceAdd x v reducesTo_S16x3x512x512_S16x512x512_d1 h_S_) main_v145 main_cst_17
  let main_v147 : FVec F S16x1x512x512 .f32 := broadcastInDim S16x1x512x512 ![0, 2, 3] bcast_S16x512x512_S16x1x512x512_0_2_3 main_v146
  fn_part7 (F := F) main_arg0 main_arg1 main_arg2 main_v4 main_v8 main_v92 main_v93 main_v139 main_v147

def fn_part5 {F : FTy → Type} [FloatOps F] (main_arg0 : FVec F S16x3x512x512 .f32) (main_arg1 : FVec F S1x3x3x3 .f32) (main_arg2 : FVec F S1x3x3x3 .f32) (main_v4 : FVec F S1x3x3x3 .f32) (main_v8 : FVec F S1x3x3x3 .f32) (main_v92 : FVec F S16x1x512x512 .f32) (main_v93 : FVec F S16x3x514x514 .f32) (main_v103 : FVec F S16x1x512x512 .f32) (main_v104 : FVec F S16x3x512x512 .f32) : IVec S16x3x512x512 1 × IVec S1x3x3x3 1 × IVec S1x3x3x3 1 × IVec S16x1x512x512 1 :=
  let main_v105 : FVec F S1x3x1x1 .f32 := (extractStridedSlice S1x3x1x1 ![0, 0, 0, 1] · slices_S1x3x3x3_S1x3x1x1_0_0_0_1) main_arg2
  let main_v106 : FVec F S3 .f32 := shapeCast S3 main_v105 shapeCasts_S1x3x1x1_S3
  let main_v107 : FVec F S1x3x1x1 .f32 := broadcastInDim S1x3x1x1 ![1] bcast_S3_S1x3x1x1_1 main_v106
  let main_v108 : FVec F S16x3x512x512 .f32 := broadcastInDim S16x3x512x512 ![0, 1, 2, 3] bcast_S1x3x1x1_S16x3x512x512_0_1_2_3 main_v107
  let main_v109 : FVec F S16x3x512x512 .f32 := mulf main_v104 main_v108
  let main_cst_13 : FVec F S_ .f32 := constant S_ .f32 0x00000000#32
  let main_v110 : FVec F S16x512x512 .f32 := (fun x v => Host.reduceAdd x v reducesTo_S16x3x512x512_S16x512x512_d1 h_S_) main_v109 main_cst_13
  let main_v111 : FVec F S16x1x512x512 .f32 := broadcastInDim S16x1x512x512 ![0, 2, 3] bcast_S16x512x512_S16x1x512x512_0_2_3 main_v110
  let main_v112 : FVec F S16x1x512x512 .f32 := addf main_v103 main_v111
  let main_v113 : FVec F S16x3x512x512 .f32 := (extractStridedSlice S16x3x512x512 ![0, 0, 0, 2] · slices_S16x3x514x514_S16x3x512x512_0_0_0_2) main_v93
  let main_v114 : FVec F S1x3x1x1 .f32 := (extractStridedSlice S1x3x1x1 ![0, 0, 0, 2] · slices_S1x3x3x3_S1x3x1x1_0_0_0_2) main_arg2
  let main_v115 : FVec F S3 .f32 := shapeCast S3 main_v114 shapeCasts_S1x3x1x1_S3
  let main_v116 : FVec F S1x3x1x1 .f32 := broadcastInDim S1x3x1x1 ![1] bcast_S3_S1x3x1x1_1 main_v115
  let main_v117 : FVec F S16x3x512x512 .f32 := broadcastInDim S16x3x512x512 ![0, 1, 2, 3] bcast_S1x3x1x1_S16x3x512x512_0_1_2_3 main_v116
  let main_v118 : FVec F S16x3x512x512 .f32 := mulf main_v113 main_v117
  let main_cst_14 : FVec F S_ .f32 := constant S_ .f32 0x00000000#32
  let main_v119 : FVec F S16x512x512 .f32 := (fun x v => Host.reduceAdd x v reducesTo_S16x3x512x512_S16x512x512_d1 h_S_) main_v118 main_cst_14
  let main_v120 : FVec F S16x1x512x512 .f32 := broadcastInDim S16x1x512x512 ![0, 2, 3] bcast_S16x512x512_S16x1x512x512_0_2_3 main_v119
  let main_v121 : FVec F S16x1x512x512 .f32 := addf main_v112 main_v120
  let main_v122 : FVec F S16x3x512x512 .f32 := (extractStridedSlice S16x3x512x512 ![0, 0, 1, 0] · slices_S16x3x514x514_S16x3x512x512_0_0_1_0) main_v93
  let main_v123 : FVec F S1x3x1x1 .f32 := (extractStridedSlice S1x3x1x1 ![0, 0, 1, 0] · slices_S1x3x3x3_S1x3x1x1_0_0_1_0) main_arg2
  let main_v124 : FVec F S3 .f32 := shapeCast S3 main_v123 shapeCasts_S1x3x1x1_S3
  let main_v125 : FVec F S1x3x1x1 .f32 := broadcastInDim S1x3x1x1 ![1] bcast_S3_S1x3x1x1_1 main_v124
  let main_v126 : FVec F S16x3x512x512 .f32 := broadcastInDim S16x3x512x512 ![0, 1, 2, 3] bcast_S1x3x1x1_S16x3x512x512_0_1_2_3 main_v125
  fn_part6 (F := F) main_arg0 main_arg1 main_arg2 main_v4 main_v8 main_v92 main_v93 main_v121 main_v122 main_v126

def fn_part4 {F : FTy → Type} [FloatOps F] (main_arg0 : FVec F S16x3x512x512 .f32) (main_arg1 : FVec F S1x3x3x3 .f32) (main_arg2 : FVec F S1x3x3x3 .f32) (main_v4 : FVec F S1x3x3x3 .f32) (main_v8 : FVec F S1x3x3x3 .f32) (main_v82 : FVec F S16x1x512x512 .f32) (main_v83 : FVec F S16x3x512x512 .f32) (main_v84 : FVec F S1x3x1x1 .f32) : IVec S16x3x512x512 1 × IVec S1x3x3x3 1 × IVec S1x3x3x3 1 × IVec S16x1x512x512 1 :=
  let main_v85 : FVec F S3 .f32 := shapeCast S3 main_v84 shapeCasts_S1x3x1x1_S3
  let main_v86 : FVec F S1x3x1x1 .f32 := broadcastInDim S1x3x1x1 ![1] bcast_S3_S1x3x1x1_1 main_v85
  let main_v87 : FVec F S16x3x512x512 .f32 := broadcastInDim S16x3x512x512 ![0, 1, 2, 3] bcast_S1x3x1x1_S16x3x512x512_0_1_2_3 main_v86
  let main_v88 : FVec F S16x3x512x512 .f32 := mulf main_v83 main_v87
  let main_cst_9 : FVec F S_ .f32 := constant S_ .f32 0x00000000#32
  let main_v89 : FVec F S16x512x512 .f32 := (fun x v => Host.reduceAdd x v reducesTo_S16x3x512x512_S16x512x512_d1 h_S_) main_v88 main_cst_9
  let main_v90 : FVec F S16x1x512x512 .f32 := broadcastInDim S16x1x512x512 ![0, 2, 3] bcast_S16x512x512_S16x1x512x512_0_2_3 main_v89
  let main_v91 : FVec F S16x1x512x512 .f32 := addf main_v82 main_v90
  let main_v92 : FVec F S16x1x512x512 .f32 := Host.absf main_v91
  let main_c_10 : IVec S_ 32 := constantI S_ 32 0#32
  let main_v93 : FVec F S16x3x514x514 .f32 := fn_pad (F := F) main_arg0 main_c_10
  let main_cst_11 : FVec F S_ .f32 := constant S_ .f32 0x00000000#32
  let main_v94 : FVec F S16x1x512x512 .f32 := broadcastInDim S16x1x512x512 ![] bcast_S_S16x1x512x512 main_cst_11
  let main_v95 : FVec F S16x3x512x512 .f32 := (extractStridedSlice S16x3x512x512 ![0, 0, 0, 0] · slices_S16x3x514x514_S16x3x512x512_0_0_0_0) main_v93
  let main_v96 : FVec F S1x3x1x1 .f32 := (extractStridedSlice S1x3x1x1 ![0, 0, 0, 0] · slices_S1x3x3x3_S1x3x1x1_0_0_0_0) main_arg2
  let main_v97 : FVec F S3 .f32 := shapeCast S3 main_v96 shapeCasts_S1x3x1x1_S3
  let main_v98 : FVec F S1x3x1x1 .f32 := broadcastInDim S1x3x1x1 ![1] bcast_S3_S1x3x1x1_1 main_v97
  let main_v99 : FVec F S16x3x512x512 .f32 := broadcastInDim S16x3x512x512 ![0, 1, 2, 3] bcast_S1x3x1x1_S16x3x512x512_0_1_2_3 main_v98
  let main_v100 : FVec F S16x3x512x512 .f32 := mulf main_v95 main_v99
  let main_cst_12 : FVec F S_ .f32 := constant S_ .f32 0x00000000#32
  let main_v101 : FVec F S16x512x512 .f32 := (fun x v => Host.reduceAdd x v reducesTo_S16x3x512x512_S16x512x512_d1 h_S_) main_v100 main_cst_12
  let main_v102 : FVec F S16x1x512x512 .f32 := broadcastInDim S16x1x512x512 ![0, 2, 3] bcast_S16x512x512_S16x1x512x512_0_2_3 main_v101
  let main_v103 : FVec F S16x1x512x512 .f32 := addf main_v94 main_v102
  let main_v104 : FVec F S16x3x512x512 .f32 := (extractStridedSlice S16x3x512x512 ![0, 0, 0, 1] · slices_S16x3x514x514_S16x3x512x512_0_0_0_1) main_v93
  fn_part5 (F := F) main_arg0 main_arg1 main_arg2 main_v4 main_v8 main_v92 main_v93 main_v103 main_v104

def fn_part3 {F : FTy → Type} [FloatOps F] (main_arg0 : FVec F S16x3x512x512 .f32) (main_arg1 : FVec F S1x3x3x3 .f32) (main_arg2 : FVec F S1x3x3x3 .f32) (main_v4 : FVec F S1x3x3x3 .f32) (main_v8 : FVec F S1x3x3x3 .f32) (main_v9 : FVec F S16x3x514x514 .f32) (main_v55 : FVec F S16x1x512x512 .f32) (main_v62 : FVec F S16x512x512 .f32) : IVec S16x3x512x512 1 × IVec S1x3x3x3 1 × IVec S1x3x3x3 1 × IVec S16x1x512x512 1 :=
  let main_v63 : FVec F S16x1x512x512 .f32 := broadcastInDim S16x1x512x512 ![0, 2, 3] bcast_S16x512x512_S16x1x512x512_0_2_3 main_v62
  let main_v64 : FVec F S16x1x512x512 .f32 := addf main_v55 main_v63
  let main_v65 : FVec F S16x3x512x512 .f32 := (extractStridedSlice S16x3x512x512 ![0, 0, 2, 0] · slices_S16x3x514x514_S16x3x512x512_0_0_2_0) main_v9
  let main_v66 : FVec F S1x3x1x1 .f32 := (extractStridedSlice S1x3x1x1 ![0, 0, 2, 0] · slices_S1x3x3x3_S1x3x1x1_0_0_2_0) main_arg1
  let main_v67 : FVec F S3 .f32 := shapeCast S3 main_v66 shapeCasts_S1x3x1x1_S3
  let main_v68 : FVec F S1x3x1x1 .f32 := broadcastInDim S1x3x1x1 ![1] bcast_S3_S1x3x1x1_1 main_v67
  let main_v69 : FVec F S16x3x512x512 .f32 := broadcastInDim S16x3x512x512 ![0, 1, 2, 3] bcast_S1x3x1x1_S16x3x512x512_0_1_2_3 main_v68
  let main_v70 : FVec F S16x3x512x512 .f32 := mulf main_v65 main_v69
  let main_cst_7 : FVec F S_ .f32 := constant S_ .f32 0x00000000#32
  let main_v71 : FVec F S16x512x512 .f32 := (fun x v => Host.reduceAdd x v reducesTo_S16x3x512x512_S16x512x512_d1 h_S_) main_v70 main_cst_7
  let main_v72 : FVec F S16x1x512x512 .f32 := broadcastInDim S16x1x512x512 ![0, 2, 3] bcast_S16x512x512_S16x1x512x512_0_2_3 main_v71
  let main_v73 : FVec F S16x1x512x512 .f32 := addf main_v64 main_v72
  let main_v74 : FVec F S16x3x512x512 .f32 := (extractStridedSlice S16x3x512x512 ![0, 0, 2, 1] · slices_S16x3x514x514_S16x3x512x512_0_0_2_1) main_v9
  let main_v75 : FVec F S1x3x1x1 .f32 := (extractStridedSlice S1x3x1x1 ![0, 0, 2, 1] · slices_S1x3x3x3_S1x3x1x1_0_0_2_1) main_arg1
  let main_v76 : FVec F S3 .f32 := shapeCast S3 main_v75 shapeCasts_S1x3x1x1_S3
  let main_v77 : FVec F S1x3x1x1 .f32 := broadcastInDim S1x3x1x1 ![1] bcast_S3_S1x3x1x1_1 main_v76
  let main_v78 : FVec F S16x3x512x512 .f32 := broadcastInDim S16x3x512x512 ![0, 1, 2, 3] bcast_S1x3x1x1_S16x3x512x512_0_1_2_3 main_v77
  let main_v79 : FVec F S16x3x512x512 .f32 := mulf main_v74 main_v78
  let main_cst_8 : FVec F S_ .f32 := constant S_ .f32 0x00000000#32
  let main_v80 : FVec F S16x512x512 .f32 := (fun x v => Host.reduceAdd x v reducesTo_S16x3x512x512_S16x512x512_d1 h_S_) main_v79 main_cst_8
  let main_v81 : FVec F S16x1x512x512 .f32 := broadcastInDim S16x1x512x512 ![0, 2, 3] bcast_S16x512x512_S16x1x512x512_0_2_3 main_v80
  let main_v82 : FVec F S16x1x512x512 .f32 := addf main_v73 main_v81
  let main_v83 : FVec F S16x3x512x512 .f32 := (extractStridedSlice S16x3x512x512 ![0, 0, 2, 2] · slices_S16x3x514x514_S16x3x512x512_0_0_2_2) main_v9
  let main_v84 : FVec F S1x3x1x1 .f32 := (extractStridedSlice S1x3x1x1 ![0, 0, 2, 2] · slices_S1x3x3x3_S1x3x1x1_0_0_2_2) main_arg1
  fn_part4 (F := F) main_arg0 main_arg1 main_arg2 main_v4 main_v8 main_v82 main_v83 main_v84

def fn_part2 {F : FTy → Type} [FloatOps F] (main_arg0 : FVec F S16x3x512x512 .f32) (main_arg1 : FVec F S1x3x3x3 .f32) (main_arg2 : FVec F S1x3x3x3 .f32) (main_v4 : FVec F S1x3x3x3 .f32) (main_v8 : FVec F S1x3x3x3 .f32) (main_v9 : FVec F S16x3x514x514 .f32) (main_v37 : FVec F S16x1x512x512 .f32) (main_v38 : FVec F S16x3x512x512 .f32) (main_v41 : FVec F S1x3x1x1 .f32) : IVec S16x3x512x512 1 × IVec S1x3x3x3 1 × IVec S1x3x3x3 1 × IVec S16x1x512x512 1 :=
  let main_v42 : FVec F S16x3x512x512 .f32 := broadcastInDim S16x3x512x512 ![0, 1, 2, 3] bcast_S1x3x1x1_S16x3x512x512_0_1_2_3 main_v41
  let main_v43 : FVec F S16x3x512x512 .f32 := mulf main_v38 main_v42
  let main_cst_4 : FVec F S_ .f32 := constant S_ .f32 0x00000000#32
  let main_v44 : FVec F S16x512x512 .f32 := (fun x v => Host.reduceAdd x v reducesTo_S16x3x512x512_S16x512x512_d1 h_S_) main_v43 main_cst_4
  let main_v45 : FVec F S16x1x512x512 .f32 := broadcastInDim S16x1x512x512 ![0, 2, 3] bcast_S16x512x512_S16x1x512x512_0_2_3 main_v44
  let main_v46 : FVec F S16x1x512x512 .f32 := addf main_v37 main_v45
  let main_v47 : FVec F S16x3x512x512 .f32 := (extractStridedSlice S16x3x512x512 ![0, 0, 1, 1] · slices_S16x3x514x514_S16x3x512x512_0_0_1_1) main_v9
  let main_v48 : FVec F S1x3x1x1 .f32 := (extractStridedSlice S1x3x1x1 ![0, 0, 1, 1] · slices_S1x3x3x3_S1x3x1x1_0_0_1_1) main_arg1
  let main_v49 : FVec F S3 .f32 := shapeCast S3 main_v48 shapeCasts_S1x3x1x1_S3
  let main_v50 : FVec F S1x3x1x1 .f32 := broadcastInDim S1x3x1x1 ![1] bcast_S3_S1x3x1x1_1 main_v49
  let main_v51 : FVec F S16x3x512x512 .f32 := broadcastInDim S16x3x512x512 ![0, 1, 2, 3] bcast_S1x3x1x1_S16x3x512x512_0_1_2_3 main_v50
  let main_v52 : FVec F S16x3x512x512 .f32 := mulf main_v47 main_v51
  let main_cst_5 : FVec F S_ .f32 := constant S_ .f32 0x00000000#32
  let main_v53 : FVec F S16x512x512 .f32 := (fun x v => Host.reduceAdd x v reducesTo_S16x3x512x512_S16x512x512_d1 h_S_) main_v52 main_cst_5
  let main_v54 : FVec F S16x1x512x512 .f32 := broadcastInDim S16x1x512x512 ![0, 2, 3] bcast_S16x512x512_S16x1x512x512_0_2_3 main_v53
  let main_v55 : FVec F S16x1x512x512 .f32 := addf main_v46 main_v54
  let main_v56 : FVec F S16x3x512x512 .f32 := (extractStridedSlice S16x3x512x512 ![0, 0, 1, 2] · slices_S16x3x514x514_S16x3x512x512_0_0_1_2) main_v9
  let main_v57 : FVec F S1x3x1x1 .f32 := (extractStridedSlice S1x3x1x1 ![0, 0, 1, 2] · slices_S1x3x3x3_S1x3x1x1_0_0_1_2) main_arg1
  let main_v58 : FVec F S3 .f32 := shapeCast S3 main_v57 shapeCasts_S1x3x1x1_S3
  let main_v59 : FVec F S1x3x1x1 .f32 := broadcastInDim S1x3x1x1 ![1] bcast_S3_S1x3x1x1_1 main_v58
  let main_v60 : FVec F S16x3x512x512 .f32 := broadcastInDim S16x3x512x512 ![0, 1, 2, 3] bcast_S1x3x1x1_S16x3x512x512_0_1_2_3 main_v59
  let main_v61 : FVec F S16x3x512x512 .f32 := mulf main_v56 main_v60
  let main_cst_6 : FVec F S_ .f32 := constant S_ .f32 0x00000000#32
  let main_v62 : FVec F S16x512x512 .f32 := (fun x v => Host.reduceAdd x v reducesTo_S16x3x512x512_S16x512x512_d1 h_S_) main_v61 main_cst_6
  fn_part3 (F := F) main_arg0 main_arg1 main_arg2 main_v4 main_v8 main_v9 main_v55 main_v62

def fn_part1 {F : FTy → Type} [FloatOps F] (main_arg0 : FVec F S16x3x512x512 .f32) (main_arg1 : FVec F S1x3x3x3 .f32) (main_arg2 : FVec F S1x3x3x3 .f32) (main_v4 : FVec F S1x3x3x3 .f32) (main_v8 : FVec F S1x3x3x3 .f32) (main_v9 : FVec F S16x3x514x514 .f32) (main_v19 : FVec F S16x1x512x512 .f32) : IVec S16x3x512x512 1 × IVec S1x3x3x3 1 × IVec S1x3x3x3 1 × IVec S16x1x512x512 1 :=
  let main_v20 : FVec F S16x3x512x512 .f32 := (extractStridedSlice S16x3x512x512 ![0, 0, 0, 1] · slices_S16x3x514x514_S16x3x512x512_0_0_0_1) main_v9
  let main_v21 : FVec F S1x3x1x1 .f32 := (extractStridedSlice S1x3x1x1 ![0, 0, 0, 1] · slices_S1x3x3x3_S1x3x1x1_0_0_0_1) main_arg1
  let main_v22 : FVec F S3 .f32 := shapeCast S3 main_v21 shapeCasts_S1x3x1x1_S3
  let main_v23 : FVec F S1x3x1x1 .f32 := broadcastInDim S1x3x1x1 ![1] bcast_S3_S1x3x1x1_1 main_v22
  let main_v24 : FVec F S16x3x512x512 .f32 := broadcastInDim S16x3x512x512 ![0, 1, 2, 3] bcast_S1x3x1x1_S16x3x512x512_0_1_2_3 main_v23
  let main_v25 : FVec F S16x3x512x512 .f32 := mulf main_v20 main_v24
  let main_cst_2 : FVec F S_ .f32 := constant S_ .f32 0x00000000#32
  let main_v26 : FVec F S16x512x512 .f32 := (fun x v => Host.reduceAdd x v reducesTo_S16x3x512x512_S16x512x512_d1 h_S_) main_v25 main_cst_2
  let main_v27 : FVec F S16x1x512x512 .f32 := broadcastInDim S16x1x512x512 ![0, 2, 3] bcast_S16x512x512_S16x1x512x512_0_2_3 main_v26
  let main_v28 : FVec F S16x1x512x512 .f32 := addf main_v19 main_v27
  let main_v29 : FVec F S16x3x512x512 .f32 := (extractStridedSlice S16x3x512x512 ![0, 0, 0, 2] · slices_S16x3x514x514_S16x3x512x512_0_0_0_2) main_v9
  let main_v30 : FVec F S1x3x1x1 .f32 := (extractStridedSlice S1x3x1x1 ![0, 0, 0, 2] · slices_S1x3x3x3_S1x3x1x1_0_0_0_2) main_arg1
  let main_v31 : FVec F S3 .f32 := shapeCast S3 main_v30 shapeCasts_S1x3x1x1_S3
  let main_v32 : FVec F S1x3x1x1 .f32 := broadcastInDim S1x3x1x1 ![1] bcast_S3_S1x3x1x1_1 main_v31
  let main_v33 : FVec F S16x3x512x512 .f32 := broadcastInDim S16x3x512x512 ![0, 1, 2, 3] bcast_S1x3x1x1_S16x3x512x512_0_1_2_3 main_v32
  let main_v34 : FVec F S16x3x512x512 .f32 := mulf main_v29 main_v33
  let main_cst_3 : FVec F S_ .f32 := constant S_ .f32 0x00000000#32
  let main_v35 : FVec F S16x512x512 .f32 := (fun x v => Host.reduceAdd x v reducesTo_S16x3x512x512_S16x512x512_d1 h_S_) main_v34 main_cst_3
  let main_v36 : FVec F S16x1x512x512 .f32 := broadcastInDim S16x1x512x512 ![0, 2, 3] bcast_S16x512x512_S16x1x512x512_0_2_3 main_v35
  let main_v37 : FVec F S16x1x512x512 .f32 := addf main_v28 main_v36
  let main_v38 : FVec F S16x3x512x512 .f32 := (extractStridedSlice S16x3x512x512 ![0, 0, 1, 0] · slices_S16x3x514x514_S16x3x512x512_0_0_1_0) main_v9
  let main_v39 : FVec F S1x3x1x1 .f32 := (extractStridedSlice S1x3x1x1 ![0, 0, 1, 0] · slices_S1x3x3x3_S1x3x1x1_0_0_1_0) main_arg1
  let main_v40 : FVec F S3 .f32 := shapeCast S3 main_v39 shapeCasts_S1x3x1x1_S3
  let main_v41 : FVec F S1x3x1x1 .f32 := broadcastInDim S1x3x1x1 ![1] bcast_S3_S1x3x1x1_1 main_v40
  fn_part2 (F := F) main_arg0 main_arg1 main_arg2 main_v4 main_v8 main_v9 main_v37 main_v38 main_v41

def fn {F : FTy → Type} [FloatOps F] (main_arg0 : FVec F S16x3x512x512 .f32) (main_arg1 : FVec F S1x3x3x3 .f32) (main_arg2 : FVec F S1x3x3x3 .f32) : IVec S16x3x512x512 1 × IVec S1x3x3x3 1 × IVec S1x3x3x3 1 × IVec S16x1x512x512 1 :=
  let main_cst : FVec F S3x3 .f32 := fun i => FloatOps.ofBits .f32 (lit0 (S3x3.rowMajor i))
  let main_v0 : FVec F S3x3 .f32 := (transpose S3x3 [1, 0] · transposes_S3x3_S3x3_1_0) main_cst
  let main_v1 : FVec F S1x1x3x3 .f32 := broadcastInDim S1x1x3x3 ![2, 3] bcast_S3x3_S1x1x3x3_2_3 main_cst
  let main_v2 : FVec F S1x1x1x1x1x3x1x3 .f32 := shapeCast S1x1x1x1x1x3x1x3 main_v1 shapeCasts_S1x1x3x3_S1x1x1x1x1x3x1x3
  let main_v3 : FVec F S1x1x3x1x1x3x1x3 .f32 := broadcastInDim S1x1x3x1x1x3x1x3 ![0, 1, 2, 3, 4, 5, 6, 7] bcast_S1x1x1x1x1x3x1x3_S1x1x3x1x1x3x1x3_0_1_2_3_4_5_6_7 main_v2
  let main_v4 : FVec F S1x3x3x3 .f32 := shapeCast S1x3x3x3 main_v3 shapeCasts_S1x1x3x1x1x3x1x3_S1x3x3x3
  let main_v5 : FVec F S1x1x3x3 .f32 := broadcastInDim S1x1x3x3 ![2, 3] bcast_S3x3_S1x1x3x3_2_3 main_v0
  let main_v6 : FVec F S1x1x1x1x1x3x1x3 .f32 := shapeCast S1x1x1x1x1x3x1x3 main_v5 shapeCasts_S1x1x3x3_S1x1x1x1x1x3x1x3
  let main_v7 : FVec F S1x1x3x1x1x3x1x3 .f32 := broadcastInDim S1x1x3x1x1x3x1x3 ![0, 1, 2, 3, 4, 5, 6, 7] bcast_S1x1x1x1x1x3x1x3_S1x1x3x1x1x3x1x3_0_1_2_3_4_5_6_7 main_v6
  let main_v8 : FVec F S1x3x3x3 .f32 := shapeCast S1x3x3x3 main_v7 shapeCasts_S1x1x3x1x1x3x1x3_S1x3x3x3
  let main_c : IVec S_ 32 := constantI S_ 32 0#32
  let main_v9 : FVec F S16x3x514x514 .f32 := fn_pad (F := F) main_arg0 main_c
  let main_cst_0 : FVec F S_ .f32 := constant S_ .f32 0x00000000#32
  let main_v10 : FVec F S16x1x512x512 .f32 := broadcastInDim S16x1x512x512 ![] bcast_S_S16x1x512x512 main_cst_0
  let main_v11 : FVec F S16x3x512x512 .f32 := (extractStridedSlice S16x3x512x512 ![0, 0, 0, 0] · slices_S16x3x514x514_S16x3x512x512_0_0_0_0) main_v9
  let main_v12 : FVec F S1x3x1x1 .f32 := (extractStridedSlice S1x3x1x1 ![0, 0, 0, 0] · slices_S1x3x3x3_S1x3x1x1_0_0_0_0) main_arg1
  let main_v13 : FVec F S3 .f32 := shapeCast S3 main_v12 shapeCasts_S1x3x1x1_S3
  let main_v14 : FVec F S1x3x1x1 .f32 := broadcastInDim S1x3x1x1 ![1] bcast_S3_S1x3x1x1_1 main_v13
  let main_v15 : FVec F S16x3x512x512 .f32 := broadcastInDim S16x3x512x512 ![0, 1, 2, 3] bcast_S1x3x1x1_S16x3x512x512_0_1_2_3 main_v14
  let main_v16 : FVec F S16x3x512x512 .f32 := mulf main_v11 main_v15
  let main_cst_1 : FVec F S_ .f32 := constant S_ .f32 0x00000000#32
  let main_v17 : FVec F S16x512x512 .f32 := (fun x v => Host.reduceAdd x v reducesTo_S16x3x512x512_S16x512x512_d1 h_S_) main_v16 main_cst_1
  let main_v18 : FVec F S16x1x512x512 .f32 := broadcastInDim S16x1x512x512 ![0, 2, 3] bcast_S16x512x512_S16x1x512x512_0_2_3 main_v17
  let main_v19 : FVec F S16x1x512x512 .f32 := addf main_v10 main_v18
  fn_part1 (F := F) main_arg0 main_arg1 main_arg2 main_v4 main_v8 main_v9 main_v19
-- ==== Kernel.lean ====
abbrev S16x3x512x512 : Shape := ⟨4, ![16, 3, 512, 512]⟩
abbrev S1x3x3x3 : Shape := ⟨4, ![1, 3, 3, 3]⟩
abbrev S16x9x64x64 : Shape := ⟨4, ![16, 9, 64, 64]⟩
abbrev S4x3x512x512 : Shape := ⟨4, ![4, 3, 512, 512]⟩
abbrev S4x9x64x64 : Shape := ⟨4, ![4, 9, 64, 64]⟩
abbrev S1x3x512x512 : Shape := ⟨4, ![1, 3, 512, 512]⟩
abbrev S3x512x512 : Shape := ⟨3, ![3, 512, 512]⟩
abbrev S1x512x512 : Shape := ⟨3, ![1, 512, 512]⟩
abbrev S512x512 : Shape := ⟨2, ![512, 512]⟩
abbrev S1x512 : Shape := ⟨2, ![1, 512]⟩
abbrev S511x512 : Shape := ⟨2, ![511, 512]⟩
abbrev S512x1 : Shape := ⟨2, ![512, 1]⟩
abbrev S512x511 : Shape := ⟨2, ![512, 511]⟩
abbrev S512x64 : Shape := ⟨2, ![512, 64]⟩
abbrev S64x512 : Shape := ⟨2, ![64, 512]⟩
abbrev S576x512 : Shape := ⟨2, ![576, 512]⟩
abbrev S576x64 : Shape := ⟨2, ![576, 64]⟩
abbrev S9x64x64 : Shape := ⟨3, ![9, 64, 64]⟩
abbrev S1x9x64x64 : Shape := ⟨4, ![1, 9, 64, 64]⟩
abbrev S16x36864 : Shape := ⟨2, ![16, 36864]⟩

abbrev nBuf : Space → Nat
  | .hbm => 5
  | .vmem => 4
  | .smem => 0
  | _ => 0

abbrev bufTy : (tb : Table) → Fin (tcTables nBuf tb) → BufTy
  | .hbm, ⟨0, _⟩ => ⟨S16x3x512x512, .f32⟩
  | .hbm, ⟨1, _⟩ => ⟨S1x3x3x3, .f32⟩
  | .hbm, ⟨2, _⟩ => ⟨S1x3x3x3, .f32⟩
  | .hbm, ⟨3, _⟩ => ⟨S16x9x64x64, .f32⟩
  | .hbm, ⟨4, _⟩ => ⟨S16x36864, .f32⟩
  | .local _ .vmem, ⟨0, _⟩ => ⟨S4x3x512x512, .f32⟩
  | .local _ .vmem, ⟨1, _⟩ => ⟨S4x3x512x512, .f32⟩
  | .local _ .vmem, ⟨2, _⟩ => ⟨S4x9x64x64, .f32⟩
  | .local _ .vmem, ⟨3, _⟩ => ⟨S4x9x64x64, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x9x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16x3x512x512 : Shape := ⟨4, ![16, 3, 512, 512]⟩
abbrev S1x3x3x3 : Shape := ⟨4, ![1, 3, 3, 3]⟩
abbrev S_ : Shape := ⟨0, ![]⟩
abbrev S16x3x514x514 : Shape := ⟨4, ![16, 3, 514, 514]⟩
abbrev S16x1x512x512 : Shape := ⟨4, ![16, 1, 512, 512]⟩
abbrev S1x3x1x1 : Shape := ⟨4, ![1, 3, 1, 1]⟩
abbrev S3 : Shape := ⟨1, ![3]⟩
abbrev S16x512x512 : Shape := ⟨3, ![16, 512, 512]⟩
abbrev S1x9x1x1 : Shape := ⟨4, ![1, 9, 1, 1]⟩
abbrev S16x9x512x512 : Shape := ⟨4, ![16, 9, 512, 512]⟩
abbrev S16x9x64x64 : Shape := ⟨4, ![16, 9, 64, 64]⟩
abbrev S16x36864 : Shape := ⟨2, ![16, 36864]⟩

abbrev nBuf : Space → Nat
  | .hbm => 221
  | .vmem => 0
  | .smem => 0
  | _ => 0

abbrev hbmTy0_0 (i : Nat) : BufTy := match i % 128 with
  | 0 => ⟨S16x3x512x512, .f32⟩
  | 1 => ⟨S1x3x3x3, .f32⟩
  | 2 => ⟨S1x3x3x3, .f32⟩
  | 3 => ⟨S_, .i32⟩
  | 4 => ⟨S_, .f32⟩
  | 5 => ⟨S16x3x514x514, .f32⟩
  | 6 => ⟨S_, .f32⟩
  | 7 => ⟨S16x1x512x512, .f32⟩
  | 8 => ⟨S16x3x512x512, .f32⟩
  | 9 => ⟨S1x3x1x1, .f32⟩
  | 10 => ⟨S3, .f32⟩
  | 11 => ⟨S1x3x1x1, .f32⟩
  | 12 => ⟨S16x3x512x512, .f32⟩
  | 13 => ⟨S16x3x512x512, .f32⟩
  | 14 => ⟨S_, .f32⟩
  | 15 => ⟨S16x512x512, .f32⟩
  | 16 => ⟨S16x1x512x512, .f32⟩
  | 17 => ⟨S16x1x512x512, .f32⟩
  | 18 => ⟨S16x3x512x512, .f32⟩
  | 19 => ⟨S1x3x1x1, .f32⟩
  | 20 => ⟨S3, .f32⟩
  | 21 => ⟨S1x3x1x1, .f32⟩
  | 22 => ⟨S16x3x512x512, .f32⟩
  | 23 => ⟨S16x3x512x512, .f32⟩
  | 24 => ⟨S_, .f32⟩
  | 25 => ⟨S16x512x512, .f32⟩
  | 26 => ⟨S16x1x512x512, .f32⟩
  | 27 => ⟨S16x1x512x512, .f32⟩
  | 28 => ⟨S16x3x512x512, .f32⟩
  | 29 => ⟨S1x3x1x1, .f32⟩
  | 30 => ⟨S3, .f32⟩
  | 31 => ⟨S1x3x1x1, .f32⟩
  | 32 => ⟨S16x3x512x512, .f32⟩
  | 33 => ⟨S16x3x512x512, .f32⟩
  | 34 => ⟨S_, .f32⟩
  | 35 => ⟨S16x512x512, .f32⟩
  | 36 => ⟨S16x1x512x512, .f32⟩
  | 37 => ⟨S16x1x512x512, .f32⟩
  | 38 => ⟨S16x3x512x512, .f32⟩
  | 39 => ⟨S1x3x1x1, .f32⟩
  | 40 => ⟨S3, .f32⟩
  | 41 => ⟨S1x3x1x1, .f32⟩
  | 42 => ⟨S16x3x512x512, .f32⟩
  | 43 => ⟨S16x3x512x512, .f32⟩
  | 44 => ⟨S_, .f32⟩
  | 45 => ⟨S16x512x512, .f32⟩
  | 46 => ⟨S16x1x512x512, .f32⟩
  | 47 => ⟨S16x1x512x512, .f32⟩
  | 48 => ⟨S16x3x512x512, .f32⟩
  | 49 => ⟨S1x3x1x1, .f32⟩
  | 50 => ⟨S3, .f32⟩
  | 51 => ⟨S1x3x1x1, .f32⟩
  | 52 => ⟨S16x3x512x512, .f32⟩
  | 53 => ⟨S16x3x512x512, .f32⟩
  | 54 => ⟨S_, .f32⟩
  | 55 => ⟨S16x512x512, .f32⟩
  | 56 => ⟨S16x1x512x512, .f32⟩
  | 57 => ⟨S16x1x512x512, .f32⟩
  | 58 => ⟨S16x3x512x512, .f32⟩
  | 59 => ⟨S1x3x1x1, .f32⟩
  | 60 => ⟨S3, .f32⟩
  | 61 => ⟨S1x3x1x1, .f32⟩
  | 62 => ⟨S16x3x512x512, .f32⟩
  | 63 => ⟨S16x3x512x512, .f32⟩
  | 64 => ⟨S_, .f32⟩
  | 65 => ⟨S16x512x512, .f32⟩
  | 66 => ⟨S16x1x512x512, .f32⟩
  | 67 => ⟨S16x1x512x512, .f32⟩
  | 68 => ⟨S16x3x512x512, .f32⟩
  | 69 => ⟨S1x3x1x1, .f32⟩
  | 70 => ⟨S3, .f32⟩
  | 71 => ⟨S1x3x1x1, .f32⟩
  | 72 => ⟨S16x3x512x512, .f32⟩
  | 73 => ⟨S16x3x512x512, .f32⟩
  | 74 => ⟨S_, .f32⟩
  | 75 => ⟨S16x512x512, .f32⟩
  | 76 => ⟨S16x1x512x512, .f32⟩
  | 77 => ⟨S16x1x512x512, .f32⟩
  | 78 => ⟨S16x3x512x512, .f32⟩
  | 79 => ⟨S1x3x1x1, .f32⟩
  | 80 => ⟨S3, .f32⟩
  | 81 => ⟨S1x3x1x1, .f32⟩
  | 82 => ⟨S16x3x512x512, .f32⟩
  | 83 => ⟨S16x3x512x512, .f32⟩
  | 84 => ⟨S_, .f32⟩
  | 85 => ⟨S16x512x512, .f32⟩
  | 86 => ⟨S16x1x512x512, .f32⟩
  | 87 => ⟨S16x1x512x512, .f32⟩
  | 88 => ⟨S16x3x512x512, .f32⟩
  | 89 => ⟨S1x3x1x1, .f32⟩
  | 90 => ⟨S3, .f32⟩
  | 91 => ⟨S1x3x1x1, .f32⟩
  | 92 => ⟨S16x3x512x512, .f32⟩
  | 93 => ⟨S16x3x512x512, .f32⟩
  | 94 => ⟨S_, .f32⟩
  | 95 => ⟨S16x512x512, .f32⟩
  | 96 => ⟨S16x1x512x512, .f32⟩
  | 97 => ⟨S16x1x512x512, .f32⟩
  | 98 => ⟨S_, .i32⟩
  | 99 => ⟨S_, .f32⟩
  | 100 => ⟨S16x3x514x514, .f32⟩
  | 101 => ⟨S_, .f32⟩
  | 102 => ⟨S16x1x512x512, .f32⟩
  | 103 => ⟨S16x3x512x512, .f32⟩
  | 104 => ⟨S1x3x1x1, .f32⟩
  | 105 => ⟨S3, .f32⟩
  | 106 => ⟨S1x3x1x1, .f32⟩
  | 107 => ⟨S16x3x512x512, .f32⟩
  | 108 => ⟨S16x3x512x512, .f32⟩
  | 109 => ⟨S_, .f32⟩
  | 110 => ⟨S16x512x512, .f32⟩
  | 111 => ⟨S16x1x512x512, .f32⟩
  | 112 => ⟨S16x1x512x512, .f32⟩
  | 113 => ⟨S16x3x512x512, .f32⟩
  | 114 => ⟨S1x3x1x1, .f32⟩
  | 115 => ⟨S3, .f32⟩
  | 116 => ⟨S1x3x1x1, .f32⟩
  | 117 => ⟨S16x3x512x512, .f32⟩
  | 118 => ⟨S16x3x512x512, .f32⟩
  | 119 => ⟨S_, .f32⟩
  | 120 => ⟨S16x512x512, .f32⟩
  | 121 => ⟨S16x1x512x512, .f32⟩
  | 122 => ⟨S16x1x512x512, .f32⟩
  | 123 => ⟨S16x3x512x512, .f32⟩
  | 124 => ⟨S1x3x1x1, .f32⟩
  | 125 => ⟨S3, .f32⟩
  | 126 => ⟨S1x3x1x1, .f32⟩
  | 127 => ⟨S16x3x512x512, .f32⟩
  | _ => ⟨S16x3x512x512, .f32⟩

abbrev hbmTy0_1 (i : Nat) : BufTy := match i % 128 with
  | 0 => ⟨S16x3x512x512, .f32⟩
  | 1 => ⟨S_, .f32⟩
  | 2 => ⟨S16x512x512, .f32⟩
  | 3 => ⟨S16x1x512x512, .f32⟩
  | 4 => ⟨S16x1x512x512, .f32⟩
  | 5 => ⟨S16x3x512x512, .f32⟩
  | 6 => ⟨S1x3x1x1, .f32⟩
  | 7 => ⟨S3, .f32⟩
  | 8 => ⟨S1x3x1x1, .f32⟩
  | 9 => ⟨S16x3x512x512, .f32⟩
  | 10 => ⟨S16x3x512x512, .f32⟩
  | 11 => ⟨S_, .f32⟩
  | 12 => ⟨S16x512x512, .f32⟩
  | 13 => ⟨S16x1x512x512, .f32⟩
  | 14 => ⟨S16x1x512x512, .f32⟩
  | 15 => ⟨S16x3x512x512, .f32⟩
  | 16 => ⟨S1x3x1x1, .f32⟩
  | 17 => ⟨S3, .f32⟩
  | 18 => ⟨S1x3x1x1, .f32⟩
  | 19 => ⟨S16x3x512x512, .f32⟩
  | 20 => ⟨S16x3x512x512, .f32⟩
  | 21 => ⟨S_, .f32⟩
  | 22 => ⟨S16x512x512, .f32⟩
  | 23 => ⟨S16x1x512x512, .f32⟩
  | 24 => ⟨S16x1x512x512, .f32⟩
  | 25 => ⟨S16x3x512x512, .f32⟩
  | 26 => ⟨S1x3x1x1, .f32⟩
  | 27 => ⟨S3, .f32⟩
  | 28 => ⟨S1x3x1x1, .f32⟩
  | 29 => ⟨S16x3x512x512, .f32⟩
  | 30 => ⟨S16x3x512x512, .f32⟩
  | 31 => ⟨S_, .f32⟩
  | 32 => ⟨S16x512x512, .f32⟩
  | 33 => ⟨S16x1x512x512, .f32⟩
  | 34 => ⟨S16x1x512x512, .f32⟩
  | 35 => ⟨S16x3x512x512, .f32⟩
  | 36 => ⟨S1x3x1x1, .f32⟩
  | 37 => ⟨S3, .f32⟩
  | 38 => ⟨S1x3x1x1, .f32⟩
  | 39 => ⟨S16x3x512x512, .f32⟩
  | 40 => ⟨S16x3x512x512, .f32⟩
  | 41 => ⟨S_, .f32⟩
  | 42 => ⟨S16x512x512, .f32⟩
  | 43 => ⟨S16x1x512x512, .f32⟩
  | 44 => ⟨S16x1x512x512, .f32⟩
  | 45 => ⟨S16x3x512x512, .f32⟩
  | 46 => ⟨S1x3x1x1, .f32⟩
  | 47 => ⟨S3, .f32⟩
  | 48 => ⟨S1x3x1x1, .f32⟩
  | 49 => ⟨S16x3x512x512, .f32⟩
  | 50 => ⟨S16x3x512x512, .f32⟩
  | 51 => ⟨S_, .f32⟩
  | 52 => ⟨S16x512x512, .f32⟩
  | 53 => ⟨S16x1x512x512, .f32⟩
  | 54 => ⟨S16x1x512x512, .f32⟩
  | 55 => ⟨S16x3x512x512, .f32⟩
  | 56 => ⟨S1x3x1x1, .f32⟩
  | 57 => ⟨S3, .f32⟩
  | 58 => ⟨S1x3x1x1, .f32⟩
  | 59 => ⟨S16x3x512x512, .f32⟩
  | 60 => ⟨S16x3x512x512, .f32⟩
  | 61 => ⟨S_, .f32⟩
  | 62 => ⟨S16x512x512, .f32⟩
  | 63 => ⟨S16x1x512x512, .f32⟩
  | 64 => ⟨S16x1x512x512, .f32⟩
  | 65 => ⟨S16x1x512x512, .f32⟩
  | 66 => ⟨S16x1x512x512, .f32⟩
  | 67 => ⟨S16x1x512x512, .f32⟩
  | 68 => ⟨S16x1x512x512, .f32⟩
  | 69 => ⟨S16x1x512x512, .f32⟩
  | 70 => ⟨S16x1x512x512, .f32⟩
  | 71 => ⟨S_, .f32⟩
  | 72 => ⟨S_, .f32⟩
  | 73 => ⟨S16x1x512x512, .f32⟩
  | 74 => ⟨S16x1x512x512, .f32⟩
  | 75 => ⟨S_, .f32⟩
  | 76 => ⟨S16x1x512x512, .f32⟩
  | 77 => ⟨S16x1x512x512, .f32⟩
  | 78 => ⟨S16x1x512x512, .f32⟩
  | 79 => ⟨S16x1x512x512, .i32⟩
  | 80 => ⟨S16x512x512, .i32⟩
  | 81 => ⟨S16x1x512x512, .i32⟩
  | 82 => ⟨S1x9x1x1, .i32⟩
  | 83 => ⟨S16x9x512x512, .i32⟩
  | 84 => ⟨S16x9x512x512, .i32⟩
  | 85 => ⟨S16x9x512x512, .i1⟩
  | 86 => ⟨S16x9x512x512, .f32⟩
  | 87 => ⟨S16x9x512x512, .f32⟩
  | 88 => ⟨S16x9x512x512, .f32⟩
  | 89 => ⟨S_, .f32⟩
  | 90 => ⟨S_, .f32⟩
  | 91 => ⟨S16x9x64x64, .f32⟩
  | 92 => ⟨S16x36864, .f32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_7 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_cst_8 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_c_9 : Ref sig .tc := ⟨.hbm, 98, rfl⟩
abbrev main_call1_v0 : Ref sig .tc := ⟨.hbm, 99, rfl⟩
abbrev main_v83 : Ref sig .tc := ⟨.hbm, 100, rfl⟩
abbrev main_cst_10 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_11 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_cst_12 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_13 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_cst_14 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_cst_15 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_cst_16 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_cst_17 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_cst_18 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_cst_19 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_cst_20 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_cst_21 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_call2_v0 : Ref sig .tc := ⟨.hbm, 209, rfl⟩
abbrev main_call2_v1 : Ref sig .tc := ⟨.hbm, 210, rfl⟩
abbrev main_call2_v2 : Ref sig .tc := ⟨.hbm, 211, rfl⟩
abbrev main_call2_v3 : Ref sig .tc := ⟨.hbm, 212, rfl⟩
abbrev main_call2_v4 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_cst_22 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩

abbrev nD : Nat := 1
abbrev τ : Topo := Topo.v7x

variable {F : FTy → Type} [FloatOps F]
-- ==== Proof.Image.lean ====
/-
  What the kernel body computes from ONE image, cut into the stages that the later modules read: the magnitude and the
  bin of every pixel, the two pooling matrices, the pooled rows of one bin, and the nine histograms stacked. The body
  treats four images in turn; `pieces_eq` says that each of its four stores holds this one function of that image.
-/
module

public import proofs.«01_k».proof.Proof.Gen.KernelIdeal.Frame

@[expose] public section

noncomputable section

namespace Cert.Hog

open Cert.KernelIdeal Cert.KernelIdeal.Gen Idealize.ShloMosaic Idealize.ShloMosaic.TcCoe Idealize.SL.Sem

variable {F : FTy → Type} [FloatOps F]

/-- The magnitude of every pixel of one image, as the pooling reads it. -/
def mag (v : Vec F S1x3x512x512 .f32) : FVec F S512x512 .bf16 := k0_pay14 (k0_pay9 v)

/-- The bin of every pixel of one image, as a float. -/
def bin (v : Vec F S1x3x512x512 .f32) : FVec F S512x512 .bf16 :=
  k0_pay15 (k0_pay8 v) (k0_pay10 v) (k0_pay11 v) (k0_pay12 v) (k0_pay13 v)

/-- The 512 × 64 matrix that pools columns: 1 where the column lies in the cell. -/
def poolR : FVec F S512x64 .bf16 :=
  k0_pay18 (iota .tc S512x64 32 [0] iota_S512x64_d0_w32) (iota .tc S512x64 32 [1] iota_S512x64_d1_w32) 8#32
    k0_pay16 k0_pay17 (Scalar.extui (Scalar.cmpi .sgt 8#32 0#32)) (Scalar.extui (Scalar.cmpi .slt 8#32 0#32))

/-- The 64 × 512 matrix that pools rows: 1 where the row lies in the cell. -/
def poolL : FVec F S64x512 .bf16 := k0_pay19

/-- The magnitudes of the pixels whose bin is the float of bit pattern `w`, zero elsewhere, pooled over rows. -/
def rowsOf (b m : FVec F S512x512 .bf16) (w : BitVec 16) : FVec F S64x512 .bf16 :=
  truncf .bf16 (matmul dot_S64x512_S512x512_S64x512_1_0_0_1_n_n none poolL
    (select (cmpf .oeq b (broadcast S512x512 (Scalar.ofBits .bf16 w))) m (broadcast S512x512 (Scalar.ofBits .bf16 0x0000#16)))
    (constant S64x512 .f32 0x00000000#32)) bitsLt_bf16_f32

/-- The nine bins' pooled rows, one after the other. -/
def stack (b m : FVec F S512x512 .bf16) : FVec F S576x512 .bf16 :=
  concatenate S576x512 0
    [⟨S64x512, rowsOf b m 0x0000#16⟩, ⟨S64x512, rowsOf b m 0x3F80#16⟩, ⟨S64x512, rowsOf b m 0x4000#16⟩,
     ⟨S64x512, rowsOf b m 0x4040#16⟩, ⟨S64x512, rowsOf b m 0x4080#16⟩, ⟨S64x512, rowsOf b m 0x40A0#16⟩,
     ⟨S64x512, rowsOf b m 0x40C0#16⟩, ⟨S64x512, rowsOf b m 0x40E0#16⟩, ⟨S64x512, rowsOf b m 0x4100#16⟩]
    concatenates_S64x512_S64x512_S64x512_S64x512_S64x512_S64x512_S64x512_S64x512_S64x512_S576x512_d0

/-- The nine histograms from the pixels' bins and magnitudes. -/
def hist (b m : FVec F S512x512 .bf16) : FVec F S1x9x64x64 .f32 :=
  shapeCast S1x9x64x64 (shapeCast S9x64x64
    (matmul dot_S576x512_S512x64_S576x64_1_0_0_1_n_n none (stack b m) poolR (constant S576x64 .f32 0x00000000#32))
    shapeCasts_S576x64_S9x64x64) shapeCasts_S9x64x64_S1x9x64x64

/-- The nine histograms of one image. -/
def image (v : Vec F S1x3x512x512 .f32) : FVec F S1x9x64x64 .f32 := hist (bin v) (mag v)

set_option maxRecDepth 8192 in
set_option maxHeartbeats 2000000 in
/-- The output block after the body: the four images' histograms, each stored at its own place. -/
theorem out_eq (x0 : Vec F S4x3x512x512 .f32) :
    out0_1 x0 = View.canon [⟨r0_7, image (View.ld x0 r0_6)⟩, ⟨r0_5, image (View.ld x0 r0_4)⟩,
      ⟨r0_3, image (View.ld x0 r0_2)⟩, ⟨r0_1, image (View.ld x0 r0_0)⟩] := by
  rfl

end Cert.Hog

end
-- ==== Proof.KernelValue.lean ====
/-
  The kernel's result after its run. The grid's point t holds images 4t … 4t+3 and writes their histograms to the same
  places of the output, so the output array is, image by image, `image` of Image.lean; the last line reshapes it.
-/
module

public import proofs.«01_k».proof.Proof.Image
public import Idealize.ShloMosaic.Lib.Pipeline.ValueKit
public import Idealize.ShloMosaic.Lib.Claim

@[expose] public section

set_option maxRecDepth 16384

noncomputable section

namespace Cert.Hog

open Cert.KernelIdeal Cert.KernelIdeal.Gen Idealize.ShloMosaic Idealize.ShloMosaic.TcCoe Idealize.SL.Sem
open Idealize.ShloMosaic.Pipeline (Dat)

/-- Image `n` of the batch, as a batch of one. -/
def imageAt (x : Vec Ideal S16x3x512x512 .f32) (n : Fin 16) : Vec Ideal S1x3x512x512 .f32 :=
  fun z => x (ix4 n (z 1) (z 2) (z 3))

/-- The histograms of the whole batch. -/
def histAll (x : Vec Ideal S16x3x512x512 .f32) : FVec Ideal S16x9x64x64 .f32 :=
  fun y => image (imageAt x (y 0)) (ix4 0 (y 1) (y 2) (y 3))

variable (m : (ℓ : Loc nD τ sig) → Buf (Elt Ideal) ℓ)

/-- Which block each window holds at each point. -/
theorem blockIdx : ∀ t : Fin cfg0.N, win0_0.index t = ![t.val, 0, 0, 0] ∧ win0_1.index t = ![t.val, 0, 0, 0] ∧ t.val < 4 :=
  (by decide +kernel : ∀ t : Fin grid0.N, _)

/-- The image that the body loads at place `q` of its block is image `4 t + q` of the batch. -/
theorem load (c : Dev nD) (t : Fin cfg0.N) (q : ℕ) (hq : 4 * t.val + q < 16) (inb) :
    View.ld (iblk m c 0 t) (Rect.unit (s := S4x3x512x512) ![q, 0, 0, 0] S1x3x512x512.size inb)
      = imageAt (m ((c : Thread nD τ).loc main_arg0)) ⟨4 * t.val + q, hq⟩ := by
  funext z
  change m ((c : Thread nD τ).loc main_arg0) (((cfg0.win 0).blk t).view.emb _) = m ((c : Thread nD τ).loc main_arg0) _
  refine congrArg (m ((c : Thread nD τ).loc main_arg0)) (funext fun a => Fin.ext ?_)
  have hz : (z 0).val < 1 := (z 0).isLt
  fin_cases a
  all_goals
    blk_simp [blockIdx t]
    simp
  omega

/-- One stored piece: the histograms of the block's image `q` are those of the batch's image `4 t + q`. -/
theorem piece (c : Dev nD) (t : Fin cfg0.N) (q : ℕ) (hq : q < 4) (inb)
    (z : S1x9x64x64.Idx) (y : S4x9x64x64.Idx) (h0 : (y 0).val = q)
    (h1 : (z 1).val = (y 1).val) (h2 : (z 2).val = (y 2).val) (h3 : (z 3).val = (y 3).val) :
    image (View.ld (iblk m c 0 t) (Rect.unit (s := S4x3x512x512) ![q, 0, 0, 0] S1x3x512x512.size inb)) z
      = histAll (m ((c : Thread nD τ).loc main_arg0)) ((win0_1.blk t).view.emb y) := by
  have ht := (blockIdx t).2.2
  have hn : 4 * t.val + q < 16 := by omega
  rw [load m c t q hn inb]
  have e : ((win0_1.blk t).view.emb y 0 : Fin 16) = ⟨4 * t.val + q, hn⟩ := by
    refine Fin.ext ?_
    blk_simp [blockIdx t]
    simp only; omega
  unfold histAll
  rw [e]
  refine congrArg (image _) (funext fun a => Fin.ext ?_)
  have hz : (z 0).val < 1 := (z 0).isLt
  fin_cases a
  · show (z 0).val = 0; omega
  · show (z 1).val = ((win0_1.blk t).view.emb y 1).val
    blk_simp [blockIdx t]; omega
  · show (z 2).val = ((win0_1.blk t).view.emb y 2).val
    blk_simp [blockIdx t]; omega
  · show (z 3).val = ((win0_1.blk t).view.emb y 3).val
    blk_simp [blockIdx t]; omega

/-- The output array after the region. -/
theorem final (c : Dev nD) : (dats m 0 c).arrAt 1 (cfgs 0).N = histAll (m ((c : Thread nD τ).loc main_arg0)) := by
  refine (dats m 0 c).arrAt_eq_of_covers 1 _ (by decide +kernel) fun t _ y => ?_
  blk_simp
  rw [after0_1, out_eq]
  canon_tiles x h
  · exact piece m c t 3 (by omega) _ x y (by omega) h1.symm h2.symm h3.symm
  · exact piece m c t 2 (by omega) _ x y (by omega) h1.symm h2.symm h3.symm
  · exact piece m c t 1 (by omega) _ x y (by omega) h1.symm h2.symm h3.symm
  · exact piece m c t 0 (by omega) _ x y (by omega) h1.symm h2.symm h3.symm

/-- The kernel's run: the result is the batch's histograms, one row per image. -/
theorem run (ρ) : θ_run defs (onTc (τ := τ) (main (F := Ideal))) ⟨m, fun _ => 0, ρ⟩ fun r => ∀ c : Dev nD,
    r.2.mem ((c : Thread nD τ).loc main_v1)
        = shapeCast S16x36864 (histAll (m ((c : Thread nD τ).loc main_arg0))) shapeCasts_S16x9x64x64_S16x36864
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from run_main m ρ & unchanged m ρ
  unfold Pipeline.afterTail₀
  change StableHlo.after hostOps1 _ _ = _
  after_results
  funext i
  change shapeCast S16x36864 (Pipeline.withArrays spec0 c (V0 m c) (fun w => (dats m 0 c).arrAt w (cfgs 0).N)
    (Proc.devRef .tc (Pipeline.arrRef spec0 1))) shapeCasts_S16x9x64x64_S16x36864 i = _
  rw [Pipeline.withArrays_arr spec0 (by decide), final]

end Cert.Hog

end
-- ==== Proof.Sobel.lean ====
/-
  One image over the reals: its channels on the padded grid (rows and columns 0 and 513 are a border of zeros, the image
  is 1 … 512), their sum, and the two Sobel gradients of the sum. Both programs' gradients are stated with these.
-/
module

public import Idealize.ShloMosaic.PureOps.Ideal

@[expose] public section

noncomputable section

namespace Cert.Hog

/-- An image: three channels of 512 × 512 reals. -/
abbrev Img := Fin 3 → Fin 512 → Fin 512 → ℝ

/-- A channel on the padded grid. -/
def pad (X : Img) (ch : Fin 3) (r c : ℕ) : ℝ :=
  if h : (1 ≤ r ∧ r ≤ 512) ∧ (1 ≤ c ∧ c ≤ 512) then X ch ⟨r - 1, by omega⟩ ⟨c - 1, by omega⟩ else 0

/-- The sum of the channels on the padded grid. -/
def chans (X : Img) (r c : ℕ) : ℝ := pad X 0 r c + pad X 1 r c + pad X 2 r c

/-- Inside, the padded channel is the channel. -/
theorem pad_in (X : Img) (ch : Fin 3) (r c : Fin 512) : pad X ch (r.val + 1) (c.val + 1) = X ch r c := by
  have := r.isLt; have := c.isLt
  rw [pad, dif_pos (by omega)]; rfl

/-- Outside the image's rows the sum is zero … -/
theorem chans_row (X : Img) {r : ℕ} (h : r = 0 ∨ 512 < r) (c : ℕ) : chans X r c = 0 := by
  have e (ch : Fin 3) : pad X ch r c = 0 := by rw [pad, dif_neg (by omega)]
  simp only [chans, e, add_zero]

/-- … and outside its columns too. -/
theorem chans_col (X : Img) (r : ℕ) {c : ℕ} (h : c = 0 ∨ 512 < c) : chans X r c = 0 := by
  have e (ch : Fin 3) : pad X ch r c = 0 := by rw [pad, dif_neg (by omega)]
  simp only [chans, e, add_zero]

/-- The rows' weighted sum 1, 2, 1 around padded row `r + 1`. -/
def smooth (X : Img) (r c : ℕ) : ℝ := chans X r c + 2 * chans X (r + 1) c + chans X (r + 2) c

/-- The rows' difference around padded row `r + 1`. -/
def diff (X : Img) (r c : ℕ) : ℝ := chans X (r + 2) c - chans X r c

/-- The horizontal gradient at pixel `(r, c)`. -/
def gradX (X : Img) (r c : ℕ) : ℝ := smooth X r (c + 2) - smooth X r c

/-- The vertical gradient at pixel `(r, c)`. -/
def gradY (X : Img) (r c : ℕ) : ℝ := diff X r c + 2 * diff X r (c + 1) + diff X r (c + 2)

/-- Outside the image's columns the rows' sum is zero … -/
theorem smooth_col (X : Img) (r : ℕ) {c : ℕ} (h : c = 0 ∨ 512 < c) : smooth X r c = 0 := by
  simp only [smooth, chans_col X _ h]; ring

/-- … and their difference too. -/
theorem diff_col (X : Img) (r : ℕ) {c : ℕ} (h : c = 0 ∨ 512 < c) : diff X r c = 0 := by
  simp only [diff, chans_col X _ h]; ring

end Cert.Hog

end
-- ==== Proof.RefConv.lean ====
/-
  The reference's convolution: the 3 × 3 cross-correlation, summed over the channels, of the images padded by one zero on
  every side. At a pixel of real images with a real table of weights it is the real sum of nine taps.
-/
module

public import proofs.«01_k».proof.Proof.Gen.ReferenceIdeal.Run
public import proofs.«01_k».proof.Proof.Sobel
public import Idealize.ShloMosaic.Lib.Pointwise

@[expose] public section

noncomputable section

namespace Cert.Hog

open Cert.ReferenceIdeal Cert.ReferenceIdeal.Gen Idealize.ShloMosaic Idealize.ShloMosaic.TcCoe Idealize.SL.Sem

section Terms

variable {F : FTy → Type} [FloatOps F]

/-- The images padded by one zero on every side. -/
def padded (x : FVec F S16x3x512x512 .f32) : FVec F S16x3x514x514 .f32 :=
  Idealize.ShloMosaic.pad S16x3x514x514 ![0, 0, 1, 1] ![0, 0, 1, 1] ![0, 0, 0, 0] x (sitofp .f32 (constantI S_ 32 0#32))
    pads_S16x3x512x512_S16x3x514x514_000_000_110_110 h_S_

/-- One tap: the padded images moved by (ky, kx), times the weights there, summed over the channels. -/
def tap (ky kx : ℕ) (h : S16x3x514x514.Slices ![0, 0, ky, kx] S16x3x512x512) (h' : S1x3x3x3.Slices ![0, 0, ky, kx] S1x3x1x1)
    (x : FVec F S16x3x512x512 .f32) (w : FVec F S1x3x3x3 .f32) : FVec F S16x1x512x512 .f32 :=
  broadcastInDim S16x1x512x512 ![0, 2, 3] bcast_S16x512x512_S16x1x512x512_0_2_3
    (Host.reduceAdd
      (mulf (extractStridedSlice S16x3x512x512 ![0, 0, ky, kx] (padded x) h)
        (broadcastInDim S16x3x512x512 ![0, 1, 2, 3] bcast_S1x3x1x1_S16x3x512x512_0_1_2_3
          (broadcastInDim S1x3x1x1 ![1] bcast_S3_S1x3x1x1_1
            (shapeCast S3 (extractStridedSlice S1x3x1x1 ![0, 0, ky, kx] w h') shapeCasts_S1x3x1x1_S3))))
      (constant S_ .f32 0x00000000#32) reducesTo_S16x3x512x512_S16x512x512_d1 h_S_)

/-- The convolution: the nine taps added up from zero. -/
def conv (x : FVec F S16x3x512x512 .f32) (w : FVec F S1x3x3x3 .f32) : FVec F S16x1x512x512 .f32 :=
  addf (addf (addf (addf (addf (addf (addf (addf (addf
    (broadcastInDim S16x1x512x512 ![] bcast_S_S16x1x512x512 (constant S_ .f32 0x00000000#32))
    (tap 0 0 slices_S16x3x514x514_S16x3x512x512_0_0_0_0 slices_S1x3x3x3_S1x3x1x1_0_0_0_0 x w))
    (tap 0 1 slices_S16x3x514x514_S16x3x512x512_0_0_0_1 slices_S1x3x3x3_S1x3x1x1_0_0_0_1 x w))
    (tap 0 2 slices_S16x3x514x514_S16x3x512x512_0_0_0_2 slices_S1x3x3x3_S1x3x1x1_0_0_0_2 x w))
    (tap 1 0 slices_S16x3x514x514_S16x3x512x512_0_0_1_0 slices_S1x3x3x3_S1x3x1x1_0_0_1_0 x w))
    (tap 1 1 slices_S16x3x514x514_S16x3x512x512_0_0_1_1 slices_S1x3x3x3_S1x3x1x1_0_0_1_1 x w))
    (tap 1 2 slices_S16x3x514x514_S16x3x512x512_0_0_1_2 slices_S1x3x3x3_S1x3x1x1_0_0_1_2 x w))
    (tap 2 0 slices_S16x3x514x514_S16x3x512x512_0_0_2_0 slices_S1x3x3x3_S1x3x1x1_0_0_2_0 x w))
    (tap 2 1 slices_S16x3x514x514_S16x3x512x512_0_0_2_1 slices_S1x3x3x3_S1x3x1x1_0_0_2_1 x w))
    (tap 2 2 slices_S16x3x514x514_S16x3x512x512_0_0_2_2 slices_S1x3x3x3_S1x3x1x1_0_0_2_2 x w)

end Terms

variable {x : FVec Ideal S16x3x512x512 .f32} {w : FVec Ideal S1x3x3x3 .f32} {Xs : Fin 16 → Img} {W : Fin 3 → Fin 3 → ℝ}

/-- A padded entry. -/
theorem padded_apply (hx : ∀ n ch r c, x (ix4 n ch r c) = ((Xs n ch r c : ℝ) : EReal)) (n : Fin 16) (ch : Fin 3) (r c : Fin 514) :
    padded x (ix4 n ch r c) = ((pad (Xs n) ch r c : ℝ) : EReal) := by
  pointwise [padded]
  rw [show FloatOps.sitofp (F := Ideal) .f32 0#32 = ((0 : ℝ) : EReal) by
    show (((0#32).toInt : ℝ) : EReal) = _; simp, pad]
  by_cases h : (1 ≤ r.val ∧ r.val ≤ 512) ∧ 1 ≤ c.val ∧ c.val ≤ 512
  · rw [dif_pos (by omega), dif_pos h, hx]
  · rw [dif_neg (by omega), dif_neg h]

/-- A tap at a pixel. -/
theorem tap_apply (hx : ∀ n ch r c, x (ix4 n ch r c) = ((Xs n ch r c : ℝ) : EReal))
    (hw : ∀ ch ky kx, w (ix4 0 ch ky kx) = ((W ky kx : ℝ) : EReal)) (ky kx : ℕ) (hy : ky < 3) (hx' : kx < 3) (h h') (n : Fin 16)
    (r c : Fin 512) :
    tap ky kx h h' x w (ix4 n 0 r c) = ((chans (Xs n) (r + ky) (c + kx) * W ⟨ky, hy⟩ ⟨kx, hx'⟩ : ℝ) : EReal) := by
  pointwise [tap]
  simp only [padded_apply hx, hw, ← EReal.coe_mul, Fin.sum_univ_three, ← EReal.coe_add]
  rw [EReal.coe_eq_coe_iff, chans, Nat.add_comm r.val, Nat.add_comm c.val]
  ring

/-- The convolution with a 3 × 3 table of reals. -/
def convReal (W : Fin 3 → Fin 3 → ℝ) (X : Img) (r c : ℕ) : ℝ :=
  ∑ ky : Fin 3, ∑ kx : Fin 3, chans X (r + ky) (c + kx) * W ky kx

/-- The convolution at a pixel. -/
theorem conv_apply (hx : ∀ n ch r c, x (ix4 n ch r c) = ((Xs n ch r c : ℝ) : EReal))
    (hw : ∀ ch ky kx, w (ix4 0 ch ky kx) = ((W ky kx : ℝ) : EReal)) (n : Fin 16) (r c : Fin 512) :
    conv x w (ix4 n 0 r c) = ((convReal W (Xs n) r c : ℝ) : EReal) := by
  pointwise [conv]
  rw [tap_apply hx hw 0 0 (by omega) (by omega), tap_apply hx hw 0 1 (by omega) (by omega), tap_apply hx hw 0 2 (by omega) (by omega),
    tap_apply hx hw 1 0 (by omega) (by omega), tap_apply hx hw 1 1 (by omega) (by omega), tap_apply hx hw 1 2 (by omega) (by omega),
    tap_apply hx hw 2 0 (by omega) (by omega), tap_apply hx hw 2 1 (by omega) (by omega), tap_apply hx hw 2 2 (by omega) (by omega)]
  simp only [← EReal.coe_add]
  rw [EReal.coe_eq_coe_iff]
  simp [convReal, Fin.sum_univ_three]
  ring

/-- The horizontal Sobel table. -/
def sobelX : Fin 3 → Fin 3 → ℝ := ![![-1, 0, 1], ![-2, 0, 2], ![-1, 0, 1]]
/-- The vertical one: its transpose. -/
def sobelY : Fin 3 → Fin 3 → ℝ := fun ky kx => sobelX kx ky

/-- Convolved with the horizontal table the image gives its horizontal gradient … -/
theorem convReal_sobelX (X : Img) (r c : ℕ) : convReal sobelX X r c = gradX X r c := by
  simp [convReal, Fin.sum_univ_three, sobelX, gradX, smooth]
  ring

/-- … and with the vertical one its vertical gradient. -/
theorem convReal_sobelY (X : Img) (r c : ℕ) : convReal sobelY X r c = gradY X r c := by
  simp [convReal, Fin.sum_univ_three, sobelY, sobelX, gradY, diff]
  ring

/-- The run's two named convolutions are these. -/
theorem v82_eq (V : Valuation τ sig (Elt Ideal)) : (Value.res_main_v82 V : FVec Ideal S16x1x512x512 .f32)
    = conv (F := Ideal) (V (Proc.devRef .tc main_arg0)) (V (Proc.devRef .tc main_arg1)) := by
  rfl
/-- The second. -/
theorem v165_eq (V : Valuation τ sig (Elt Ideal)) : (Value.res_main_v165 V : FVec Ideal S16x1x512x512 .f32)
    = conv (F := Ideal) (V (Proc.devRef .tc main_arg0)) (V (Proc.devRef .tc main_arg2)) := by
  rfl

end Cert.Hog

end
-- ==== Proof.Gradient.lean ====
/-
  The kernel's two gradients of one image, read at a pixel. The body adds the three channels, shifts the sum by one row
  each way with zeros shifted in, forms the rows' weighted sum and difference, and shifts those by one column each way.
  Over a finite image every stage is an entry, or a combination of entries, of the padded grid (Sobel.lean).
-/
module

public import proofs.«01_k».proof.Proof.Image
public import proofs.«01_k».proof.Proof.Sobel
public import Idealize.ShloMosaic.Lib.Pointwise

@[expose] public section

noncomputable section

namespace Cert.Hog

open Cert.KernelIdeal Cert.KernelIdeal.Gen Idealize.ShloMosaic Idealize.ShloMosaic.TcCoe Idealize.SL.Sem

/-- The float 2.0 is the real 2. -/
theorem two_f32 : Ideal.ofBits .f32 0x40000000#32 = ((2 : ℝ) : EReal) := by
  simp [Ideal.ofBits, Ideal.ieee, -EReal.coe_mul]; norm_num

variable {v : Vec Ideal S1x3x512x512 .f32} {X : Img}

/-- The sum of the channels is the padded grid's entry one row and one column in. -/
theorem sum_apply (hv : ∀ ch r c, v (ix4 0 ch r c) = ((X ch r c : ℝ) : EReal)) (r c : Fin 512) :
    k0_pay2 v (ix2 r c) = ((chans X (r + 1) (c + 1) : ℝ) : EReal) := by
  pointwise [k0_pay2]
  simp only [hv, ← EReal.coe_add, chans, pad_in]

/-- The sum shifted so that a row reads the row below it. -/
theorem down_apply (hv : ∀ ch r c, v (ix4 0 ch r c) = ((X ch r c : ℝ) : EReal)) (r c : Fin 512) :
    k0_pay4 v (ix2 r c) = ((chans X (r + 2) (c + 1) : ℝ) : EReal) := by
  pointwise [k0_pay4, k0_pay3]
  split
  · rw [sum_apply hv, show 1 + r.val + 1 = r.val + 2 by omega]
  · rw [chans_row X (.inr (by omega)), EReal.coe_zero]

/-- The sum shifted so that a row reads the row above it. -/
theorem up_apply (hv : ∀ ch r c, v (ix4 0 ch r c) = ((X ch r c : ℝ) : EReal)) (r c : Fin 512) :
    k0_pay5 v (ix2 r c) = ((chans X r (c + 1) : ℝ) : EReal) := by
  pointwise [k0_pay5, k0_pay3]
  split
  · rw [chans_row X (.inl (by omega)), EReal.coe_zero]
  · rw [sum_apply hv, show r.val - 1 + 1 = r.val by omega]

/-- The horizontal gradient. -/
theorem gx_apply (hv : ∀ ch r c, v (ix4 0 ch r c) = ((X ch r c : ℝ) : EReal)) (r c : Fin 512) :
    k0_pay7 v (ix2 r c) = ((gradX X r c : ℝ) : EReal) := by
  pointwise [k0_pay7, k0_pay6]
  simp only [sum_apply hv, up_apply hv, down_apply hv, two_f32, ← EReal.coe_mul, ← EReal.coe_add]
  rw [gradX, EReal.coe_sub]
  congr 1
  · split
    · rw [show 1 + c.val + 1 = c.val + 2 by omega]; rfl
    · rw [smooth_col X _ (.inr (by omega)), EReal.coe_zero]
  · split
    · rw [smooth_col X _ (.inl (by omega)), EReal.coe_zero]
    · rw [show c.val - 1 + 1 = c.val by omega]; rfl

/-- The vertical gradient. -/
theorem gy_apply (hv : ∀ ch r c, v (ix4 0 ch r c) = ((X ch r c : ℝ) : EReal)) (r c : Fin 512) :
    k0_pay8 v (ix2 r c) = ((gradY X r c : ℝ) : EReal) := by
  pointwise [k0_pay8, k0_pay6]
  simp only [up_apply hv, down_apply hv, two_f32, ← EReal.coe_mul, ← EReal.coe_sub]
  rw [gradY, EReal.coe_add, EReal.coe_add]
  congr 1
  · congr 1
    split
    · rw [diff_col X _ (.inl (by omega)), EReal.coe_zero]
    · rw [show c.val - 1 + 1 = c.val by omega]; rfl
  · split
    · rw [show 1 + c.val + 1 = c.val + 2 by omega]; rfl
    · rw [diff_col X _ (.inr (by omega)), EReal.coe_zero]

end Cert.Hog

end
-- ==== Proof.Angle.lean ====
/-
  The bin of an angle over the reals. With `u = |gx|` and `w = |gy|`, the reference takes `⌊|atan2 gx gy| / π · 8⌋`; the
  kernel never takes an angle: it compares `gy` with 0, `u` with `w`, and the smaller of the two with the larger times a
  constant next to tan(π/8). `floor_angle` says that the two integers are equal when the ratio of the smaller to the
  larger is not between tan(π/8) and that constant.
-/
module

public import Idealize.ShloMosaic.PureOps.Ideal

@[expose] public section

noncomputable section

namespace Cert.Hog

open Real

/-- tan(π/8) is √2 - 1. -/
theorem tan_eighth : Real.tan (π / 8) = √2 - 1 := by
  have h2 : √2 * √2 = 2 := Real.mul_self_sqrt (by norm_num)
  have hp := Real.pi_pos
  have hpos : 0 < Real.tan (π / 8) := Real.tan_pos_of_pos_of_lt_pi_div_two (by linarith) (by linarith)
  have hc : Real.cos (π / 8) ≠ 0 := (Real.cos_pos_of_mem_Ioo ⟨by linarith, by linarith⟩).ne'
  have hs4 : Real.sin (2 * (π / 8)) = √2 / 2 := by rw [show 2 * (π / 8) = π / 4 by ring, Real.sin_pi_div_four]
  have hc4 : Real.cos (2 * (π / 8)) = √2 / 2 := by rw [show 2 * (π / 8) = π / 4 by ring, Real.cos_pi_div_four]
  rw [Real.sin_two_mul] at hs4
  rw [Real.cos_two_mul] at hc4
  rw [Real.tan_eq_sin_div_cos, div_eq_iff hc]
  have h1 : Real.cos (π / 8) * (Real.sin (π / 8) - (√2 - 1) * Real.cos (π / 8)) = 0 := by nlinarith
  rcases mul_eq_zero.1 h1 with h | h
  · exact absurd h hc
  · linarith

/-- √2 lies strictly between 1 and 3/2. -/
theorem sqrt_two_bounds : 1 < √2 ∧ √2 < 3 / 2 := by
  constructor
  · rw [Real.lt_sqrt (by norm_num)]; norm_num
  · rw [Real.sqrt_lt' (by norm_num)]; norm_num

/-- tan(3π/8) is √2 + 1. -/
theorem tan_three_eighths : Real.tan (3 * π / 8) = √2 + 1 := by
  have h2 : √2 * √2 = 2 := Real.mul_self_sqrt (by norm_num)
  have h1 := sqrt_two_bounds.1
  rw [show 3 * π / 8 = π / 2 - π / 8 by ring, Real.tan_pi_div_two_sub, tan_eighth]
  rw [inv_eq_iff_eq_inv, eq_comm, inv_eq_of_mul_eq_one_left]
  nlinarith

/-- An angle with a known tangent is at most an arctangent exactly when its tangent is at most the argument. -/
theorem le_arctan_iff {a b r : ℝ} (h0 : 0 ≤ a) (h1 : a < π / 2) (hb : Real.tan a = b) : a ≤ arctan r ↔ b ≤ r := by
  have e : arctan b = a := by rw [← hb]; exact Real.arctan_tan (by linarith [Real.pi_pos]) h1
  rw [← e]; exact Real.arctan_strictMono.le_iff_le

/-- Likewise for an arctangent being at most the angle. -/
theorem arctan_le_iff {a b r : ℝ} (h0 : 0 ≤ a) (h1 : a < π / 2) (hb : Real.tan a = b) : arctan r ≤ a ↔ r ≤ b := by
  have e : arctan b = a := by rw [← hb]; exact Real.arctan_tan (by linarith [Real.pi_pos]) h1
  rw [← e]; exact Real.arctan_strictMono.le_iff_le

/-- The angle of `(gx, gy)` measured from the `gy` axis, as the extended-real `atan2` defines it on reals. -/
def angle (gx gy : ℝ) : ℝ :=
  if 0 < gy then arctan (gx / gy)
  else if gy < 0 then (if 0 ≤ gx then arctan (gx / gy) + π else arctan (gx / gy) - π)
  else if 0 < gx then π / 2 else if gx < 0 then -(π / 2) else 0

/-- Above the axis the angle's size is the arctangent of the ratio of the sizes. -/
theorem abs_angle_pos {gx gy : ℝ} (h : 0 < gy) : |angle gx gy| = arctan (|gx| / |gy|) := by
  rw [angle, if_pos h, abs_of_pos h]
  rcases le_total 0 gx with hx | hx
  · rw [abs_of_nonneg hx, abs_of_nonneg (Real.arctan_nonneg.2 (by positivity))]
  · rw [abs_of_nonpos hx, neg_div, Real.arctan_neg, abs_of_nonpos]
    rw [← Real.arctan_zero]; exact Real.arctan_strictMono.monotone (div_nonpos_of_nonpos_of_nonneg hx h.le)

/-- Below the axis it is π less that arctangent. -/
theorem abs_angle_neg {gx gy : ℝ} (h : gy < 0) : |angle gx gy| = π - arctan (|gx| / |gy|) := by
  have hp := Real.pi_pos
  rw [angle, if_neg (by linarith), if_pos h, abs_of_neg h]
  have hb := Real.neg_pi_div_two_lt_arctan (gx / gy)
  have hb' := Real.arctan_lt_pi_div_two (gx / gy)
  by_cases hx : 0 ≤ gx
  · rw [if_pos hx, abs_of_nonneg hx, div_neg, Real.arctan_neg, abs_of_nonneg (by linarith)]; ring
  · rw [if_neg hx, abs_of_neg (not_le.1 hx), neg_div_neg_eq, abs_of_nonpos (by linarith)]; ring

/-- On the axis it is a right angle. -/
theorem abs_angle_zero {gx : ℝ} (h : gx ≠ 0) : |angle gx 0| = π / 2 := by
  have hp := Real.pi_pos
  rw [angle, if_neg (lt_irrefl _), if_neg (lt_irrefl _)]
  rcases lt_or_gt_of_ne h with hx | hx
  · rw [if_neg (by linarith), if_pos hx, abs_neg, abs_of_pos (by linarith)]
  · rw [if_pos hx, abs_of_pos (by linarith)]

/-- The kernel's four tests of a pixel: `gy` not positive; … -/
def t1 (gy : ℝ) : Bool := decide (gy ≤ 0)
/-- … the angle on the far side of its quadrant's diagonal (the diagonal itself counts on the side of positive `gy`); … -/
def t2 (gx gy : ℝ) : Bool := decide (|gy| < |gx|) || ((t1 gy ^^ true) && decide (|gx| = |gy|))
/-- … the smaller size at least the larger times the constant; … -/
def t3 (c gx gy : ℝ) : Bool := decide (max |gx| |gy| * c ≤ min |gx| |gy|)
/-- … and the angle exactly π. -/
def t4 (gx gy : ℝ) : Bool := decide (|gx| ≤ 0) && decide (gy < 0)

/-- The kernel's bin, a sum of the four tests' weights. -/
def bin4 (c gx gy : ℝ) : ℕ :=
  (if t1 gy then 4 else 0) + (if t1 gy ^^ t2 gx gy then 2 else 0) + (if (t1 gy ^^ t2 gx gy) ^^ t3 c gx gy then 1 else 0)
    + (if t4 gx gy then 1 else 0)

/-- Dividing by π and multiplying by 8, an angle's floor is `n` when the angle lies between `n` and `n + 1` eighths of π. -/
theorem floor_eighths {a : ℝ} (n : ℤ) (h0 : n * π / 8 ≤ a) (h1 : a < (n + 1) * π / 8) : ⌊a / π * 8⌋ = n := by
  have hp := Real.pi_pos
  rw [Int.floor_eq_iff]
  constructor
  · rw [div_mul_eq_mul_div, le_div_iff₀ hp]; linarith
  · rw [div_mul_eq_mul_div, div_lt_iff₀ hp]; linarith

/-- The four arctangents that matter, as comparisons of the two sizes. -/
theorem arctan_ratio {u w : ℝ} (hw : 0 < w) :
    (π / 8 ≤ arctan (u / w) ↔ (√2 - 1) * w ≤ u) ∧ (π / 4 ≤ arctan (u / w) ↔ w ≤ u)
      ∧ (3 * π / 8 ≤ arctan (u / w) ↔ (√2 + 1) * w ≤ u) ∧ (arctan (u / w) ≤ π / 8 ↔ u ≤ (√2 - 1) * w)
      ∧ (arctan (u / w) ≤ π / 4 ↔ u ≤ w) ∧ (arctan (u / w) ≤ 3 * π / 8 ↔ u ≤ (√2 + 1) * w) := by
  have hp := Real.pi_pos
  refine ⟨?_, ?_, ?_, ?_, ?_, ?_⟩
  · rw [le_arctan_iff (by linarith) (by linarith) tan_eighth, le_div_iff₀ hw]
  · rw [le_arctan_iff (by linarith) (by linarith) Real.tan_pi_div_four, le_div_iff₀ hw, one_mul]
  · rw [le_arctan_iff (by linarith) (by linarith) tan_three_eighths, le_div_iff₀ hw]
  · rw [arctan_le_iff (by linarith) (by linarith) tan_eighth, div_le_iff₀ hw]
  · rw [arctan_le_iff (by linarith) (by linarith) Real.tan_pi_div_four, div_le_iff₀ hw, one_mul]
  · rw [arctan_le_iff (by linarith) (by linarith) tan_three_eighths, div_le_iff₀ hw]

/-- What the gap hypothesis says of the third test: it decides the comparison with tan(π/8), and never at equality. -/
theorem t3_spec {c gx gy : ℝ} (hc : √2 - 1 < c) (h0 : ¬(gx = 0 ∧ gy = 0))
    (gap : min |gx| |gy| < max |gx| |gy| * (√2 - 1) ∨ max |gx| |gy| * c ≤ min |gx| |gy|) :
    (t3 c gx gy = true ∧ max |gx| |gy| * (√2 - 1) < min |gx| |gy|)
      ∨ (t3 c gx gy = false ∧ min |gx| |gy| < max |gx| |gy| * (√2 - 1)) := by
  have hm : 0 < max |gx| |gy| := by
    by_contra h
    rw [not_lt, max_le_iff] at h
    exact h0 ⟨abs_nonpos_iff.1 h.1, abs_nonpos_iff.1 h.2⟩
  have hlt : max |gx| |gy| * (√2 - 1) < max |gx| |gy| * c := mul_lt_mul_of_pos_left hc hm
  rcases gap with h | h
  · exact .inr ⟨by simp only [t3, decide_eq_false_iff_not, not_le]; linarith, h⟩
  · exact .inl ⟨by simpa only [t3, decide_eq_true_eq] using h, by linarith⟩

/-- THE BIN: the reference's floor of the angle is the kernel's sum of tests. -/
theorem floor_angle {c gx gy : ℝ} (hc : √2 - 1 < c) (h0 : ¬(gx = 0 ∧ gy = 0))
    (gap : min |gx| |gy| < max |gx| |gy| * (√2 - 1) ∨ max |gx| |gy| * c ≤ min |gx| |gy|) :
    ⌊|angle gx gy| / π * 8⌋ = (bin4 c gx gy : ℤ) := by
  have hp := Real.pi_pos
  have h2 : √2 * √2 = 2 := Real.mul_self_sqrt (by norm_num)
  obtain ⟨hs, hs'⟩ := sqrt_two_bounds
  have h3 := t3_spec hc h0 gap
  have hu := abs_nonneg gx
  rcases lt_trichotomy gy 0 with hy | hy | hy
  · -- below the axis
    have hw : 0 < |gy| := abs_pos.2 hy.ne
    have e1 : t1 gy = true := decide_eq_true hy.le
    obtain ⟨a1, a2, a3, a4, a5, a6⟩ := arctan_ratio (u := |gx|) hw
    have hlt := Real.arctan_lt_pi_div_two (|gx| / |gy|)
    have hge : 0 ≤ arctan (|gx| / |gy|) := Real.arctan_nonneg.2 (by positivity)
    rw [abs_angle_neg hy]
    rcases eq_or_lt_of_le hu with hx | hx
    · have e2 : t2 gx gy = false := by simp [t2, e1, ← hx]
      have e4 : t4 gx gy = true := by simp [t4, ← hx, hy]
      have e3 : t3 c gx gy = false := by
        rcases h3 with h | h
        · exfalso; have := h.2; rw [← hx, max_eq_right hw.le, min_eq_left hw.le] at this; nlinarith
        · exact h.1
      have : arctan (|gx| / |gy|) = 0 := by rw [← hx]; simp
      rw [this]
      simp only [bin4, e1, e2, e3, e4]
      exact floor_eighths 8 (by push_cast; linarith) (by push_cast; linarith)
    · have e4 : t4 gx gy = false := by simp only [t4, Bool.and_eq_false_iff, decide_eq_false_iff_not, not_le]; exact .inl hx
      have hgt : 0 < arctan (|gx| / |gy|) := by
        rw [← Real.arctan_zero]; exact Real.arctan_strictMono (by positivity)
      rcases lt_or_ge |gy| |gx| with hd | hd
      · have e2 : t2 gx gy = true := by simp [t2, hd]
        rw [max_eq_left hd.le, min_eq_right hd.le] at h3
        rcases h3 with ⟨e3, h⟩ | ⟨e3, h⟩
        · simp only [bin4, e1, e2, e3, e4]
          have := a6.2 (by nlinarith)
          have := not_le.1 (fun k => absurd (a5.1 k) (not_le.2 hd))
          exact floor_eighths 5 (by push_cast; linarith) (by push_cast; linarith)
        · simp only [bin4, e1, e2, e3, e4]
          have := not_le.1 (fun k => absurd (a6.1 k) (not_le.2 (by nlinarith)))
          exact floor_eighths 4 (by push_cast; linarith) (by push_cast; linarith)
      · have e2 : t2 gx gy = false := by simp [t2, e1, hd]
        rw [max_eq_right hd, min_eq_left hd] at h3
        have := a5.2 hd
        rcases h3 with ⟨e3, h⟩ | ⟨e3, h⟩
        · simp only [bin4, e1, e2, e3, e4]
          have := not_le.1 (fun k => absurd (a4.1 k) (not_le.2 (by linarith)))
          exact floor_eighths 6 (by push_cast; linarith) (by push_cast; linarith)
        · simp only [bin4, e1, e2, e3, e4]
          have := a4.2 (by linarith)
          exact floor_eighths 7 (by push_cast; linarith) (by push_cast; linarith)
  · -- on the axis
    subst hy
    have hx : gx ≠ 0 := fun h => h0 ⟨h, rfl⟩
    have hx' : 0 < |gx| := abs_pos.2 hx
    have e1 : t1 0 = true := by simp [t1]
    have e2 : t2 gx 0 = true := by simp [t2, hx]
    have e4 : t4 gx 0 = false := by simp [t4]
    have e3 : t3 c gx 0 = false := by
      rcases h3 with h | h
      · exfalso; have := h.2; rw [abs_zero, max_eq_left hu, min_eq_right hu] at this; nlinarith
      · exact h.1
    rw [abs_angle_zero hx]
    simp only [bin4, e1, e2, e3, e4]
    exact floor_eighths 4 (by push_cast; linarith) (by push_cast; linarith)
  · -- above the axis
    have hw : 0 < |gy| := abs_pos.2 hy.ne'
    have e1 : t1 gy = false := decide_eq_false (not_le.2 hy)
    have e4 : t4 gx gy = false := by simp [t4, hy.le]
    obtain ⟨a1, a2, a3, a4, a5, a6⟩ := arctan_ratio (u := |gx|) hw
    have hlt := Real.arctan_lt_pi_div_two (|gx| / |gy|)
    have hge : 0 ≤ arctan (|gx| / |gy|) := Real.arctan_nonneg.2 (by positivity)
    rw [abs_angle_pos hy]
    rcases lt_or_ge |gx| |gy| with hd | hd
    · have e2 : t2 gx gy = false := by simp [t2, hd.le, hd.ne]
      rw [max_eq_right hd.le, min_eq_left hd.le] at h3
      rcases h3 with ⟨e3, h⟩ | ⟨e3, h⟩
      · simp only [bin4, e1, e2, e3, e4]
        have := a1.2 (by linarith)
        have := not_le.1 (fun k => absurd (a2.1 k) (not_le.2 hd))
        exact floor_eighths 1 (by push_cast; linarith) (by push_cast; linarith)
      · simp only [bin4, e1, e2, e3, e4]
        have := not_le.1 (fun k => absurd (a1.1 k) (not_le.2 (by linarith)))
        exact floor_eighths 0 (by push_cast; linarith) (by push_cast; linarith)
    · have e2 : t2 gx gy = true := by
        rcases eq_or_lt_of_le hd with h | h
        · simp [t2, e1, h]
        · simp [t2, h]
      rw [max_eq_left hd, min_eq_right hd] at h3
      have := a2.2 hd
      rcases h3 with ⟨e3, h⟩ | ⟨e3, h⟩
      · simp only [bin4, e1, e2, e3, e4]
        have := not_le.1 (fun k => absurd (a3.1 k) (not_le.2 (by nlinarith)))
        exact floor_eighths 2 (by push_cast; linarith) (by push_cast; linarith)
      · simp only [bin4, e1, e2, e3, e4]
        have := a3.2 (by nlinarith)
        exact floor_eighths 3 (by push_cast; linarith) (by push_cast; linarith)

/-- The bin is at most 8. -/
theorem bin4_le {c gx gy : ℝ} : bin4 c gx gy ≤ 8 := by
  unfold bin4; split <;> split <;> split <;> split <;> omega

end Cert.Hog

end
-- ==== Proof.Pixel.lean ====
/-
  What the kernel computes at one pixel of a finite image: the bin is the float of the integer `bin4` of Angle.lean at the
  two gradients, and the magnitude is the root of the sum of their squares.
-/
module

public import proofs.«01_k».proof.Proof.Gradient
public import proofs.«01_k».proof.Proof.Angle

@[expose] public section

noncomputable section

namespace Cert.Hog

open Cert.KernelIdeal Cert.KernelIdeal.Gen Idealize.ShloMosaic Idealize.ShloMosaic.TcCoe Idealize.SL.Sem

/-- The kernel's constant in place of tan(π/8): the real that its float denotes. -/
def tanConst : ℝ := 13898701 / 33554432

/-- The float's bit pattern denotes it. -/
theorem tanConst_f32 : Ideal.ofBits .f32 0x3ED413CD#32 = ((tanConst : ℝ) : EReal) := by
  simp [Ideal.ofBits, Ideal.ieee, tanConst, -EReal.coe_mul]; norm_num

/-- It is larger than tan(π/8) = √2 - 1. -/
theorem lt_tanConst : √2 - 1 < tanConst := by
  have : √2 < 47453133 / 33554432 := by rw [Real.sqrt_lt' (by norm_num)]; norm_num
  unfold tanConst; linarith

/-- The float 4.0 is the real 4. -/
theorem four_f32 : Ideal.ofBits .f32 0x40800000#32 = ((4 : ℝ) : EReal) := by
  simp [Ideal.ofBits, Ideal.ieee, -EReal.coe_mul]; norm_num

/-- The absolute value of a real. -/
theorem absf_coe (x : ℝ) : FloatOps.absf (F := Ideal) (φ := .f32) ((x : ℝ) : EReal) = ((|x| : ℝ) : EReal) := by
  show max (x : EReal) (-(x : EReal)) = _
  rw [← EReal.coe_neg]; exact (EReal.coe_strictMono.monotone.map_max).symm

/-- The larger of two reals. -/
theorem maximumf_coe (x y : ℝ) :
    FloatOps.maximumf (F := Ideal) (φ := .f32) ((x : ℝ) : EReal) ((y : ℝ) : EReal) = ((max x y : ℝ) : EReal) :=
  (EReal.coe_strictMono.monotone.map_max).symm
/-- The smaller of two reals. -/
theorem minimumf_coe (x y : ℝ) :
    FloatOps.minimumf (F := Ideal) (φ := .f32) ((x : ℝ) : EReal) ((y : ℝ) : EReal) = ((min x y : ℝ) : EReal) :=
  (EReal.coe_strictMono.monotone.map_min).symm

/-- The exclusive or of two decided bits. -/
theorem xori_bool (a b : Bool) : IntOp.xori (BitVec.ofBool a) (BitVec.ofBool b) = BitVec.ofBool (a ^^ b) := by
  cases a <;> cases b <;> rfl
/-- The or of two decided bits. -/
theorem ori_bool (a b : Bool) : IntOp.ori (BitVec.ofBool a) (BitVec.ofBool b) = BitVec.ofBool (a || b) := by
  cases a <;> cases b <;> rfl
/-- The and of two decided bits. -/
theorem andi_bool (a b : Bool) : IntOp.andi (BitVec.ofBool a) (BitVec.ofBool b) = BitVec.ofBool (a && b) := by
  cases a <;> cases b <;> rfl
/-- A select on a decided bit. -/
theorem select_bool {α : Type} (a : Bool) (x y : α) : Scalar.select (BitVec.ofBool a) x y = if a then x else y := by
  cases a <;> rfl
/-- Deciding an order of two reals, or their equality, after the embedding. -/
theorem decide_le (x y : ℝ) [Decidable ((x : EReal) ≤ (y : EReal))] : decide ((x : EReal) ≤ (y : EReal)) = decide (x ≤ y) := by
  simp
/-- The same for the strict order. -/
theorem decide_lt (x y : ℝ) [Decidable ((x : EReal) < (y : EReal))] : decide ((x : EReal) < (y : EReal)) = decide (x < y) := by
  simp
/-- The same for equality. -/
theorem decide_eq (x y : ℝ) [Decidable ((x : EReal) = (y : EReal))] : decide ((x : EReal) = (y : EReal)) = decide (x = y) := by
  simp
/-- The bit one is the decided truth. -/
theorem one_bool : (1#1 : BitVec 1) = BitVec.ofBool true := rfl

/-- The bin number as a real. -/
theorem cast_bin4 (c gx gy : ℝ) : ((bin4 c gx gy : ℕ) : ℝ)
    = (if t1 gy then 4 else 0) + (if t1 gy ^^ t2 gx gy then 2 else 0)
      + (if (t1 gy ^^ t2 gx gy) ^^ t3 c gx gy then 1 else 0) + (if t4 gx gy then 1 else 0) := by
  unfold bin4; push_cast; rfl

variable {v : Vec Ideal S1x3x512x512 .f32} {X : Img}

/-- The bin of a pixel. -/
theorem bin_apply (hv : ∀ ch r c, v (ix4 0 ch r c) = ((X ch r c : ℝ) : EReal)) (r c : Fin 512) :
    bin v (ix2 r c) = (((bin4 tanConst (gradX X r c) (gradY X r c) : ℕ) : ℝ) : EReal) := by
  have hmax := maximumf_coe
  have hmin := minimumf_coe
  simp only [Ideal.maximumf_def, Ideal.minimumf_def] at hmax hmin
  pointwise [bin, k0_pay15, k0_pay10, k0_pay11, k0_pay12, k0_pay13]
  simp only [gx_apply hv, gy_apply hv, absf_coe, four_f32, two_f32, tanConst_f32, hmax, hmin,
    ← EReal.coe_mul, ← EReal.coe_zero, ← EReal.coe_one, decide_le, decide_lt, decide_eq]
  simp only [one_bool, xori_bool, ori_bool, andi_bool, select_bool, EReal.coe_le_coe_iff]
  simp only [← apply_ite (fun x : ℝ => (x : EReal)), ← EReal.coe_add]
  rw [EReal.coe_eq_coe_iff, cast_bin4]
  refine congrArg₂ (· + ·) (congrArg₂ (· + ·) (congrArg₂ (· + ·) ?_ rfl) rfl) rfl
  simp only [t1, decide_eq_true_eq]

/-- The magnitude of a pixel. -/
theorem mag_apply (hv : ∀ ch r c, v (ix4 0 ch r c) = ((X ch r c : ℝ) : EReal)) (r c : Fin 512) :
    mag v (ix2 r c) = ((√(gradX X r c * gradX X r c + gradY X r c * gradY X r c) : ℝ) : EReal) := by
  pointwise [mag, k0_pay14, k0_pay9]
  simp only [gx_apply hv, gy_apply hv, ← EReal.coe_mul, ← EReal.coe_add]
  rw [Ideal.sqrt_coe, if_neg (not_lt.2 (add_nonneg (mul_self_nonneg _) (mul_self_nonneg _)))]

end Cert.Hog

end
-- ==== Proof.RefPixel.lean ====
/-
  The reference at one pixel: its bin number is the word of ⌊|angle| / π · 8⌋, and what the pixel adds to bin k is its
  magnitude if k is that bin and zero if not.
-/
module

public import proofs.«01_k».proof.Proof.RefConv
public import proofs.«01_k».proof.Proof.Pixel

@[expose] public section

noncomputable section

namespace Cert.Hog

open Cert.ReferenceIdeal Cert.ReferenceIdeal.Gen Idealize.ShloMosaic Idealize.ShloMosaic.TcCoe Idealize.SL.Sem

section Terms

variable {F : FTy → Type} [FloatOps F]

/-- The pixels' bin numbers. -/
def refBin (gx gy : FVec F S16x1x512x512 .f32) : IVec S16x1x512x512 32 :=
  fptosi 32 (Host.floor (mulf
    (Host.divf (Host.absf (Host.atan2 gx gy))
      (broadcastInDim S16x1x512x512 ![] bcast_S_S16x1x512x512 (Host.acos (constant S_ .f32 0xBF800000#32))))
    (broadcastInDim S16x1x512x512 ![] bcast_S_S16x1x512x512 (constant S_ .f32 0x41000000#32))))

/-- The pixels' magnitudes. -/
def refMag (gx gy : FVec F S16x1x512x512 .f32) : FVec F S16x1x512x512 .f32 :=
  Host.sqrt (addf (mulf gx gx) (mulf gy gy))

/-- What each pixel adds to each bin. -/
def oneHot (gx gy : FVec F S16x1x512x512 .f32) : FVec F S16x9x512x512 .f32 :=
  mulf
    (uitofp .f32 (cmpi .eq
      (broadcastInDim S16x9x512x512 ![0, 1, 2, 3] bcast_S16x1x512x512_S16x9x512x512_0_1_2_3
        (broadcastInDim S16x1x512x512 ![0, 2, 3] bcast_S16x512x512_S16x1x512x512_0_2_3
          (shapeCast S16x512x512 (refBin gx gy) shapeCasts_S16x1x512x512_S16x512x512)))
      (broadcastInDim S16x9x512x512 ![0, 1, 2, 3] bcast_S1x9x1x1_S16x9x512x512_0_1_2_3 (iotaInDim S1x9x1x1 32 1))))
    (broadcastInDim S16x9x512x512 ![0, 1, 2, 3] bcast_S16x1x512x512_S16x9x512x512_0_1_2_3 (refMag gx gy))

/-- The reference's result from the two gradients. -/
def refHist (gx gy : FVec F S16x1x512x512 .f32) : FVec F S16x9x64x64 .f32 :=
  Host.reduceWindowAdd ![1, 1, 8, 8] ![1, 1, 8, 8] ![0, 0, 0, 0] ![0, 0, 0, 0] (oneHot gx gy)
    (broadcastInDim S_ ![] bcast_S_S_ (constant S_ .f32 0x00000000#32))
    reduceWindows_S16x9x512x512_S16x9x64x64_w1s1p0_0_w1s1p0_0_w8s8p0_0_w8s8p0_0 h_S_

end Terms

/-- The float -1.0 is the real -1 … -/
theorem neg_one_f32 : Ideal.ofBits .f32 0xBF800000#32 = ((-1 : ℝ) : EReal) := by
  simp [Ideal.ofBits, Ideal.ieee, -EReal.coe_mul]; norm_num
/-- … and 8.0 the real 8. -/
theorem eight_f32 : Ideal.ofBits .f32 0x41000000#32 = ((8 : ℝ) : EReal) := by
  simp [Ideal.ofBits, Ideal.ieee, -EReal.coe_mul]; norm_num

/-- The quotient of two reals, the second not zero. -/
theorem div_real (x y : ℝ) (h : y ≠ 0) : Ideal.div ((x : ℝ) : EReal) ((y : ℝ) : EReal) = ((x / y : ℝ) : EReal) := by
  rw [Ideal.div, if_neg (by simpa using h), ← EReal.coe_inv, ← EReal.coe_mul, div_eq_mul_inv]

/-- A small whole number, converted to a word. -/
theorem fptosi_nat (n : ℕ) (h : n ≤ 8) : FloatOps.fptosi (F := Ideal) (φ := .f32) 32 (((n : ℝ) : ℝ) : EReal) = BitVec.ofNat 32 n := by
  show Ideal.fptosi 32 _ = _
  rw [Ideal.fptosi, Ideal.toIntClamped_coe, if_pos (Nat.cast_nonneg n), Int.floor_natCast, min_eq_right (by norm_num; omega),
    max_eq_right (by norm_num), BitVec.ofInt_natCast]

/-- The gap that the precondition asks for, at a pixel with gradients `a`, `b`. -/
def Clear (a b : ℝ) : Prop :=
  min |a| |b| < max |a| |b| * (√2 - 1) ∨ max |a| |b| * tanConst ≤ min |a| |b|

variable {gx gy : FVec Ideal S16x1x512x512 .f32}

/-- The bin number of a pixel whose gradients are not both zero. -/
theorem refBin_apply (n : Fin 16) (r c : Fin 512) {a b : ℝ} (ha : gx (ix4 n 0 r c) = ((a : ℝ) : EReal))
    (hb : gy (ix4 n 0 r c) = ((b : ℝ) : EReal)) (h0 : ¬(a = 0 ∧ b = 0)) (hc : Clear a b) :
    refBin gx gy (ix4 n 0 r c) = BitVec.ofNat 32 (bin4 tanConst a b) := by
  pointwise [refBin]
  rw [ha, hb, show Ideal.atan2 ((a : ℝ) : EReal) ((b : ℝ) : EReal) = ((angle a b : ℝ) : EReal) from rfl, absf_coe, neg_one_f32,
    eight_f32, Ideal.acos_coe, if_pos (by norm_num), Real.arccos_neg_one, div_real _ _ Real.pi_ne_zero, ← EReal.coe_mul,
    Ideal.liftRound_coe, floor_angle lt_tanConst h0 hc]
  exact fptosi_nat _ (bin4_le ..)

/-- The magnitude of a pixel. -/
theorem refMag_apply (n : Fin 16) (r c : Fin 512) {a b : ℝ} (ha : gx (ix4 n 0 r c) = ((a : ℝ) : EReal))
    (hb : gy (ix4 n 0 r c) = ((b : ℝ) : EReal)) : refMag gx gy (ix4 n 0 r c) = ((√(a * a + b * b) : ℝ) : EReal) := by
  pointwise [refMag]
  rw [ha, hb, ← EReal.coe_mul, ← EReal.coe_mul, ← EReal.coe_add, Ideal.sqrt_coe,
    if_neg (not_lt.2 (add_nonneg (mul_self_nonneg _) (mul_self_nonneg _)))]

/-- The word comparison of two small numbers, as the real 1 or 0. -/
theorem hit (p : ℕ) (hp : p ≤ 8) (k : Fin 9) : FloatOps.uitofp (F := Ideal) .f32
    (IntOp.cmpi .eq (BitVec.ofNat 32 p) (BitVec.ofNat 32 k.val)) = if p = k.val then (1 : EReal) else 0 := by
  have h : (BitVec.ofNat 32 p = BitVec.ofNat 32 k.val) ↔ p = k.val := by
    rw [← BitVec.toNat_inj, BitVec.toNat_ofNat, BitVec.toNat_ofNat, Nat.mod_eq_of_lt (by omega), Nat.mod_eq_of_lt (by omega)]
  show (((IntOp.cmpi .eq (BitVec.ofNat 32 p) (BitVec.ofNat 32 k.val)).toNat : ℝ) : EReal) = _
  by_cases e : p = k.val <;> simp [IntOp.cmpi, h, e]

/-- What a pixel adds to bin `k`. -/
theorem oneHot_apply (n : Fin 16) (k : Fin 9) (r c : Fin 512) {a b : ℝ} (ha : gx (ix4 n 0 r c) = ((a : ℝ) : EReal))
    (hb : gy (ix4 n 0 r c) = ((b : ℝ) : EReal)) (hc : Clear a b) :
    oneHot gx gy (ix4 n k r c) = if bin4 tanConst a b = k.val then ((√(a * a + b * b) : ℝ) : EReal) else 0 := by
  pointwise [oneHot]
  rw [refMag_apply n r c ha hb]
  by_cases h0 : a = 0 ∧ b = 0
  · obtain ⟨rfl, rfl⟩ := h0
    simp
  · rw [refBin_apply n r c ha hb h0 hc, hit _ (bin4_le ..), ite_mul, one_mul, zero_mul]

/-- The reference's run: the result is one row per image of the histograms. -/
theorem ref_run (m : (ℓ : Loc nD τ sig) → Buf (Elt Ideal) ℓ) (ρ) :
    θ_run defs (onTc (τ := τ) (main (F := Ideal))) ⟨m, fun _ => 0, ρ⟩ fun r => ∀ c : Dev nD,
    r.2.mem ((c : Thread nD τ).loc main_v185)
        = shapeCast S16x36864 (refHist (conv (F := Ideal) (m ((c : Thread nD τ).loc main_arg0)) (m ((c : Thread nD τ).loc main_arg1)))
            (conv (F := Ideal) (m ((c : Thread nD τ).loc main_arg0)) (m ((c : Thread nD τ).loc main_arg2)))) shapeCasts_S16x9x64x64_S16x36864
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1, (h c).2⟩) (Value.run m ρ)

end Cert.Hog

end
-- ==== Proof.PreFacts.lean ====
/-
  What the precondition gives: the images are real, the weights are the two Sobel tables, and at every pixel the smaller of
  the two gradients' magnitudes is below √2 - 1 times the larger, or at least the kernel's threshold times the larger.
-/
module

public import proofs.«01_k».proof.Proof.Gen.Pre_sobel_clear
public import proofs.«01_k».proof.Proof.RefPixel

@[expose] public section

noncomputable section

namespace Cert.Hog

open Idealize.ShloMosaic Idealize.ShloMosaic.TcCoe Idealize.SL.Sem

section Terms

open Cert.Pre_sobel_clear Cert.Pre_sobel_clear.Gen

variable {F : FTy → Type} [FloatOps F]

/-- A 3 × 3 table for each of the three channels. -/
def tile (w : FVec F S3x3 .f32) : FVec F S1x3x3x3 .f32 :=
  shapeCast S1x3x3x3
    (broadcastInDim S1x1x3x1x1x3x1x3 ![0, 1, 2, 3, 4, 5, 6, 7] Facts.bcast_S1x1x1x1x1x3x1x3_S1x1x3x1x1x3x1x3_0_1_2_3_4_5_6_7
      (shapeCast S1x1x1x1x1x3x1x3 (broadcastInDim S1x1x3x3 ![2, 3] Facts.bcast_S3x3_S1x1x3x3_2_3 w)
        Facts.shapeCasts_S1x1x3x3_S1x1x1x1x1x3x1x3))
    Facts.shapeCasts_S1x1x3x1x1x3x1x3_S1x3x3x3

/-- The horizontal Sobel table. -/
def table : FVec F S3x3 .f32 := fun i => FloatOps.ofBits .f32 (lit0 (S3x3.rowMajor i))

/-- The pixels with a gap. -/
def gapMask (a b : FVec F S16x1x512x512 .f32) : IVec S16x1x512x512 1 :=
  ori
    (cmpf .olt (minimumf (Host.absf a) (Host.absf b)) (mulf (maximumf (Host.absf a) (Host.absf b))
      (broadcastInDim S16x1x512x512 ![] Facts.bcast_S_S16x1x512x512
        (subf (Host.sqrt (constant S_ .f32 0x40000000#32)) (constant S_ .f32 0x3F800000#32)))))
    (cmpf .oge (minimumf (Host.absf a) (Host.absf b)) (mulf (maximumf (Host.absf a) (Host.absf b))
      (broadcastInDim S16x1x512x512 ![] Facts.bcast_S_S16x1x512x512 (constant S_ .f32 0x3ED413CD#32))))

/-- The precondition's four masks. -/
theorem fn_eq (x : FVec F S16x3x512x512 .f32) (u w : FVec F S1x3x3x3 .f32) :
    fn (F := F) x u w =
      (cmpf .olt (Host.absf x) (broadcastInDim S16x3x512x512 ![] Facts.bcast_S_S16x3x512x512 (constant S_ .f32 0x7F800000#32)),
        cmpf .oeq u (tile table), cmpf .oeq w (tile (transpose S3x3 [1, 0] table Facts.transposes_S3x3_S3x3_1_0)),
        gapMask (conv x u) (conv x w)) := rfl

end Terms

section Facts

open Cert.Pre_sobel_clear Cert.Pre_sobel_clear.Gen

/-- A decided bit that is one is true. -/
theorem of_bit {p : Prop} [Decidable p] (h : BitVec.ofBool (decide p) = 1#1) : p := by
  by_contra hp
  simp [hp] at h

/-- One of two decided bits is true if their disjunction is one. -/
theorem of_or_bit {p q : Prop} [Decidable p] [Decidable q]
    (h : IntOp.ori (BitVec.ofBool (decide p)) (BitVec.ofBool (decide q)) = 1#1) : p ∨ q := by
  rw [ori_bool] at h
  by_contra hp
  obtain ⟨h1, h2⟩ := not_or.1 hp
  simp [h1, h2] at h

/-- An entry of a tiled table. -/
theorem tile_apply (w : FVec Ideal S3x3 .f32) (ch ky kx : Fin 3) : tile w (ix4 0 ch ky kx) = w (ix2 ky kx) := by
  pointwise [tile]

/-- The float -2.0 is the real -2. -/
theorem neg_two_f32 : Ideal.ofBits .f32 0xC0000000#32 = ((-2 : ℝ) : EReal) := by
  simp [Ideal.ofBits, Ideal.ieee, -EReal.coe_mul]; norm_num

/-- An entry of the Sobel table. -/
theorem table_apply (ky kx : Fin 3) : table (F := Ideal) (ix2 ky kx) = ((sobelX ky kx : ℝ) : EReal) := by
  have h : S3x3.rowMajor (ix2 ky kx) = (⟨ky.val * 3 + kx.val, by omega⟩ : Fin 9) :=
    Fin.ext (Shape.rowMajor_val_two (d := ![3, 3]) (ix2 ky kx))
  show Ideal.ofBits .f32 (lit0 (S3x3.rowMajor (ix2 ky kx))) = _
  rw [h]
  fin_cases ky <;> fin_cases kx <;> simp [lit0, sobelX, neg_one_f32, neg_two_f32, two_f32]

/-- An extended real of finite magnitude is a real. -/
theorem real_of_abs_lt (e : EReal) (h : FloatOps.absf (F := Ideal) (φ := .f32) e < (⊤ : EReal)) : e = ((e.toReal : ℝ) : EReal) := by
  have h' : max e (-e) < ⊤ := h
  rw [max_lt_iff] at h'
  refine (EReal.coe_toReal h'.1.ne fun hb => ?_).symm
  simp [hb] at h'

/-- The float infinity. -/
theorem inf_f32 : Ideal.ofBits .f32 0x7F800000#32 = (⊤ : EReal) := by
  simp [Ideal.ofBits, Ideal.ieee]

variable {x : FVec Ideal S16x3x512x512 .f32} {u w : FVec Ideal S1x3x3x3 .f32}

/-- The images as reals. -/
def imgs (x : FVec Ideal S16x3x512x512 .f32) (n : Fin 16) : Img := fun ch r c => EReal.toReal (x (ix4 n ch r c))

/-- The images are real. -/
theorem imgs_apply (h : (fn (F := Ideal) x u w).1 = fun _ => 1#1) (n : Fin 16) (ch : Fin 3) (r c : Fin 512) :
    x (ix4 n ch r c) = ((imgs x n ch r c : ℝ) : EReal) := by
  rw [fn_eq] at h
  have h := congrFun h (ix4 n ch r c)
  pointwise at h
  rw [inf_f32] at h
  exact real_of_abs_lt _ (of_bit h)

/-- The first weights are the horizontal Sobel table. -/
theorem wx_apply (h : (fn (F := Ideal) x u w).2.1 = fun _ => 1#1) (ch ky kx : Fin 3) :
    u (ix4 0 ch ky kx) = ((sobelX ky kx : ℝ) : EReal) := by
  rw [fn_eq] at h
  have h := congrFun h (ix4 0 ch ky kx)
  pointwise at h
  rw [of_bit h, tile_apply, table_apply]

/-- The second weights are the vertical Sobel table. -/
theorem wy_apply (h : (fn (F := Ideal) x u w).2.2.1 = fun _ => 1#1) (ch ky kx : Fin 3) :
    w (ix4 0 ch ky kx) = ((sobelY ky kx : ℝ) : EReal) := by
  rw [fn_eq] at h
  have h := congrFun h (ix4 0 ch ky kx)
  pointwise at h
  have e : transpose (α := Ideal .f32) S3x3 [1, 0] table Facts.transposes_S3x3_S3x3_1_0 (ix2 ky kx) = table (ix2 kx ky) := by
    pointwise
  rw [of_bit h, tile_apply, e, table_apply]
  rfl

/-- Every pixel has a gap. -/
theorem gap_apply (h : (fn (F := Ideal) x u w).2.2.2 = fun _ => 1#1) (n : Fin 16) (r c : Fin 512) {a b : ℝ}
    (ha : conv x u (ix4 n 0 r c) = ((a : ℝ) : EReal)) (hb : conv x w (ix4 n 0 r c) = ((b : ℝ) : EReal)) : Clear a b := by
  rw [fn_eq] at h
  have h := congrFun h (ix4 n 0 r c)
  pointwise [gapMask] at h
  have hmax : max (FloatOps.absf (conv x u (ix4 n 0 r c))) (FloatOps.absf (conv x w (ix4 n 0 r c))) =
      ((max |a| |b| : ℝ) : Ideal .f32) := by
    rw [ha, hb, absf_coe, absf_coe]
    exact maximumf_coe _ _
  have hmin : min (FloatOps.absf (conv x u (ix4 n 0 r c))) (FloatOps.absf (conv x w (ix4 n 0 r c))) =
      ((min |a| |b| : ℝ) : Ideal .f32) := by
    rw [ha, hb, absf_coe, absf_coe]
    exact minimumf_coe _ _
  have hroot : Ideal.sqrt (Ideal.ofBits .f32 0x40000000#32) - 1 = ((√2 - 1 : ℝ) : EReal) := by
    rw [two_f32, Ideal.sqrt_coe, if_neg (by norm_num), EReal.coe_sub, EReal.coe_one]
  rw [hmax, hmin, hroot, tanConst_f32] at h
  refine (of_or_bit h).imp (fun h => ?_) fun h => ?_
  · exact EReal.coe_lt_coe_iff.1 (by rw [EReal.coe_mul]; exact h)
  · exact EReal.coe_le_coe_iff.1 (by rw [EReal.coe_mul]; exact h)

end Facts

end Cert.Hog
-- ==== Proof.Pool.lean ====
/-
  The pooling. The two pooling matrices are the indicators of "this row (column) lies in that cell of 8", so a product
  with one of them sums the rows (columns) of a cell, and the kernel's histogram entry is the sum over a cell's 8 × 8
  pixels of the magnitudes of the pixels whose bin is that entry's.
-/
module

public import proofs.«01_k».proof.Proof.Image
public import Idealize.ShloMosaic.Lib.Pointwise

@[expose] public section

noncomputable section

namespace Cert.Hog

open Cert.KernelIdeal Cert.KernelIdeal.Gen Idealize.ShloMosaic Idealize.ShloMosaic.TcCoe Idealize.SL.Sem

/-- The body's way to divide a word by 8 rounding down: the quotient, less one where the signs differ and a remainder is left. -/
def floorDiv8 (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 8#32 0#32)) (Scalar.extui (Scalar.cmpi .slt 8#32 0#32))))
      (IntOp.cmpi .ne (IntOp.remsi .vector x 8#32) 0#32))
    (IntOp.subi (IntOp.divsi .vector x 8#32) 1#32) (IntOp.divsi .vector x 8#32)

/-- On the coordinates 0 … 511 that is the coordinate's cell. -/
theorem floorDiv8_eq (c : Fin 512) : floorDiv8 (BitVec.ofNat 32 c.val) = BitVec.ofNat 32 (c.val / 8) := by
  revert c; decide +kernel

/-- Two cell numbers are equal as words exactly when they are equal. -/
theorem cell_eq (c : Fin 512) (i : Fin 64) :
    IntOp.cmpi .eq (BitVec.ofNat 32 (c.val / 8)) (BitVec.ofNat 32 i.val) = BitVec.ofBool (decide (c.val / 8 = i.val)) := by
  have h : (BitVec.ofNat 32 (c.val / 8) = BitVec.ofNat 32 i.val) ↔ c.val / 8 = i.val := by
    rw [← BitVec.toNat_inj, BitVec.toNat_ofNat, BitVec.toNat_ofNat, Nat.mod_eq_of_lt (by omega), Nat.mod_eq_of_lt (by omega)]
  simp only [IntOp.cmpi, ← h]
  rfl

/-- The row pooling matrix. -/
theorem poolL_apply (i : Fin 64) (r : Fin 512) : poolL (F := Ideal) (ix2 i r) = if r.val / 8 = i.val then (1 : EReal) else 0 := by
  pointwise [poolL, k0_pay19]
  rw [show Scalar.select _ _ _ = floorDiv8 (BitVec.ofNat 32 r.val) from rfl, floorDiv8_eq, cell_eq]
  by_cases h : r.val / 8 = i.val <;> simp [h, Scalar.select]

/-- The column pooling matrix. -/
theorem poolR_apply (c : Fin 512) (j : Fin 64) : poolR (F := Ideal) (ix2 c j) = if c.val / 8 = j.val then (1 : EReal) else 0 := by
  pointwise [poolR, k0_pay18, k0_pay16, k0_pay17]
  rw [show Scalar.select _ _ _ = floorDiv8 (BitVec.ofNat 32 c.val) from rfl, floorDiv8_eq, cell_eq]
  by_cases h : c.val / 8 = j.val <;> simp [h, Scalar.select]

/-- Coordinate `a` of cell `i`. -/
abbrev cell (i : Fin 64) (a : Fin 8) : Fin 512 := ⟨8 * i.val + a.val, by omega⟩

/-- A sum over 512 coordinates restricted to one cell is the sum over the cell's eight. -/
theorem sum_cell (f : Fin 512 → EReal) (i : Fin 64) :
    ∑ r : Fin 512, (if r.val / 8 = i.val then f r else 0) = ∑ a : Fin 8, f (cell i a) := by
  rw [← Finset.sum_filter]
  refine (Finset.sum_bij (fun a _ => cell i a) (fun a _ => ?_) (fun a _ b _ h => ?_) (fun r hr => ?_) (fun _ _ => rfl)).symm
  · simp only [Finset.mem_filter, Finset.mem_univ, true_and]; omega
  · have := congrArg Fin.val h; exact Fin.ext (by simp only at this; omega)
  · simp only [Finset.mem_filter, Finset.mem_univ, true_and] at hr
    exact ⟨⟨r.val % 8, by omega⟩, Finset.mem_univ _, Fin.ext (by simp only; omega)⟩

/-- The pooled rows of one bin. -/
theorem rowsOf_apply (b m : FVec Ideal S512x512 .bf16) (w : BitVec 16) (i : Fin 64) (c : Fin 512) :
    rowsOf b m w (ix2 i c)
      = ∑ a : Fin 8, if b (ix2 (cell i a) c) = Ideal.ofBits .bf16 w then m (ix2 (cell i a) c) else 0 := by
  pointwise [rowsOf]
  simp only [poolL_apply, ite_mul, one_mul, zero_mul]
  exact sum_cell (fun r => if b (ix2 r c) = Ideal.ofBits .bf16 w then m (ix2 r c) else 0) i

/-- The nine bins' bit patterns, in order. -/
def binWord : Fin 9 → BitVec 16 :=
  ![0x0000#16, 0x3F80#16, 0x4000#16, 0x4040#16, 0x4080#16, 0x40A0#16, 0x40C0#16, 0x40E0#16, 0x4100#16]

/-- Bin `k`'s pattern denotes `k`. -/
theorem binWord_val (k : Fin 9) : Ideal.ofBits .bf16 (binWord k) = ((k.val : ℝ) : EReal) := by
  fin_cases k <;> simp [binWord, Ideal.ofBits, Ideal.ieee, -EReal.coe_mul] <;> norm_num

/-- Row `64 k + i` of the stacked rows is row `i` of bin `k`'s. -/
theorem stack_apply (b m : FVec Ideal S512x512 .bf16) (k : Fin 9) (i : Fin 64) (l : Fin 512) (h : k.val * 64 + i.val < 576) :
    stack b m (ix2 ⟨k.val * 64 + i.val, h⟩ l) = rowsOf b m (binWord k) (ix2 i l) := by
  have := i.isLt
  pointwise [stack]
  by_cases h0 : k.val * 64 + i.val < 64
  · refine (dif_pos h0).trans ?_
    obtain rfl : k = 0 := Fin.ext (show k.val = 0 by omega)
    exact congrArg₂ (fun w x => rowsOf b m w (ix2 x l)) rfl (Fin.ext (by simp only; omega))
  refine (dif_neg h0).trans ?_
  by_cases h1 : k.val * 64 + i.val - 64 < 64
  · refine (dif_pos h1).trans ?_
    obtain rfl : k = 1 := Fin.ext (show k.val = 1 by omega)
    exact congrArg₂ (fun w x => rowsOf b m w (ix2 x l)) rfl (Fin.ext (by simp only; omega))
  refine (dif_neg h1).trans ?_
  by_cases h2 : k.val * 64 + i.val - 64 - 64 < 64
  · refine (dif_pos h2).trans ?_
    obtain rfl : k = 2 := Fin.ext (show k.val = 2 by omega)
    exact congrArg₂ (fun w x => rowsOf b m w (ix2 x l)) rfl (Fin.ext (by simp only; omega))
  refine (dif_neg h2).trans ?_
  by_cases h3 : k.val * 64 + i.val - 64 - 64 - 64 < 64
  · refine (dif_pos h3).trans ?_
    obtain rfl : k = 3 := Fin.ext (show k.val = 3 by omega)
    exact congrArg₂ (fun w x => rowsOf b m w (ix2 x l)) rfl (Fin.ext (by simp only; omega))
  refine (dif_neg h3).trans ?_
  by_cases h4 : k.val * 64 + i.val - 64 - 64 - 64 - 64 < 64
  · refine (dif_pos h4).trans ?_
    obtain rfl : k = 4 := Fin.ext (show k.val = 4 by omega)
    exact congrArg₂ (fun w x => rowsOf b m w (ix2 x l)) rfl (Fin.ext (by simp only; omega))
  refine (dif_neg h4).trans ?_
  by_cases h5 : k.val * 64 + i.val - 64 - 64 - 64 - 64 - 64 < 64
  · refine (dif_pos h5).trans ?_
    obtain rfl : k = 5 := Fin.ext (show k.val = 5 by omega)
    exact congrArg₂ (fun w x => rowsOf b m w (ix2 x l)) rfl (Fin.ext (by simp only; omega))
  refine (dif_neg h5).trans ?_
  by_cases h6 : k.val * 64 + i.val - 64 - 64 - 64 - 64 - 64 - 64 < 64
  · refine (dif_pos h6).trans ?_
    obtain rfl : k = 6 := Fin.ext (show k.val = 6 by omega)
    exact congrArg₂ (fun w x => rowsOf b m w (ix2 x l)) rfl (Fin.ext (by simp only; omega))
  refine (dif_neg h6).trans ?_
  by_cases h7 : k.val * 64 + i.val - 64 - 64 - 64 - 64 - 64 - 64 - 64 < 64
  · refine (dif_pos h7).trans ?_
    obtain rfl : k = 7 := Fin.ext (show k.val = 7 by omega)
    exact congrArg₂ (fun w x => rowsOf b m w (ix2 x l)) rfl (Fin.ext (by simp only; omega))
  refine (dif_neg h7).trans ?_
  obtain rfl : k = 8 := Fin.ext (show k.val = 8 by omega)
  exact congrArg₂ (fun w x => rowsOf b m w (ix2 x l)) rfl (Fin.ext (by simp only; omega))

/-- A histogram entry: the sum over the cell of the magnitudes of the pixels in that bin. -/
theorem hist_apply (b m : FVec Ideal S512x512 .bf16) (k : Fin 9) (i j : Fin 64) :
    hist b m (ix4 0 k i j) = ∑ c : Fin 8, ∑ a : Fin 8,
      if b (ix2 (cell i a) (cell j c)) = ((k.val : ℝ) : EReal) then m (ix2 (cell i a) (cell j c)) else 0 := by
  pointwise [hist]
  simp only [stack_apply, rowsOf_apply, poolR_apply, mul_ite, mul_one, mul_zero, binWord_val]
  exact sum_cell _ j

end Cert.Hog

end
-- ==== Proof.Window.lean ====
/-
  The reference's sum over 8 by 8 windows, as a double sum over the rows and columns of a window.
-/
module

public import proofs.«01_k».proof.Proof.RefPixel
public import proofs.«01_k».proof.Proof.Pool

@[expose] public section

noncomputable section

namespace Cert.Hog

open Cert.ReferenceIdeal Cert.ReferenceIdeal.Gen Idealize.ShloMosaic Idealize.ShloMosaic.TcCoe Idealize.SL.Sem

/-- A left fold of an exact addition over all numbers below `n` is the sum. -/
theorem foldl_add {n : ℕ} (f : Fin n → EReal) : (List.finRange n).foldl (fun r i => r + f i) 0 = ∑ i, f i := by
  rw [← List.sum_ofFn, List.ofFn_eq_map, List.sum_eq_foldl, List.foldl_map]

/-- The shape of a window. -/
abbrev Win : Shape := ⟨4, ![1, 1, 8, 8]⟩

/-- A position of a window is a row and a column. -/
def winEquiv : Fin 8 × Fin 8 ≃ Win.Idx where
  toFun p := ix4 0 0 p.1 p.2
  invFun z := (z 2, z 3)
  left_inv _ := rfl
  right_inv z := by
    funext a
    match a with
    | 0 => exact (Fin.eq_zero (z 0 : Fin 1)).symm
    | 1 => exact (Fin.eq_zero (z 1 : Fin 1)).symm
    | 2 => rfl
    | 3 => rfl

/-- The reference's result: a cell's histogram is the sum of what its pixels add. -/
theorem refHist_apply (gx gy : FVec Ideal S16x1x512x512 .f32) (n : Fin 16) (k : Fin 9) (i j : Fin 64) :
    refHist gx gy (ix4 n k i j) = ∑ a : Fin 8, ∑ b : Fin 8, oneHot gx gy (ix4 n k (cell i a) (cell j b)) := by
  have h0 : (broadcastInDim S_ ![] bcast_S_S_ (constant (F := Ideal) S_ .f32 0x00000000#32)) (Shape.Idx.first h_S_) = (0 : EReal) := by
    pointwise
  rw [refHist, Host.reduceWindowAdd, h0, Ideal.hostReduceWindowAdd_def, Ideal.hostReduceWindowAdd, Host.reduceWindow]
  generalize oneHot gx gy = y
  refine (foldl_add _).trans ?_
  have key : ∀ z : Win.Idx, ∀ d : Fin 4, (ix4 n k i j d).val * (![1, 1, 8, 8] : Fin 4 → ℕ) d + (z d).val - 0 =
      (ix4 n k (cell i (z 2)) (cell j (z 3)) d).val := by
    intro z d
    have h0 : (z 0).val < 1 := (z 0).isLt
    have h1 : (z 1).val < 1 := (z 1).isLt
    match d with
    | 0 => show n.val * 1 + (z 0).val - 0 = n.val; omega
    | 1 => show k.val * 1 + (z 1).val - 0 = k.val; omega
    | 2 => show i.val * 8 + (z 2).val - 0 = 8 * i.val + (z 2).val; omega
    | 3 => show j.val * 8 + (z 3).val - 0 = 8 * j.val + (z 3).val; omega
  have zero : ∀ d : Fin 4, (![0, 0, 0, 0] : Fin 4 → ℕ) d = 0 := by decide
  refine (Finset.sum_congr rfl fun m _ => ?_).trans
    ((Equiv.sum_comp Win.rowMajor.symm (fun z : Win.Idx => y (ix4 n k (cell i (z 2)) (cell j (z 3))))).trans ?_)
  · refine (dif_pos fun d => ⟨?_, ?_⟩).trans (congrArg y (funext fun d => Fin.ext ?_))
    · refine Eq.trans ?_ (key (Win.rowMajor.symm m) d)
      exact congrArg (_ - ·) (zero d)
    · exact (zero d).trans_le (Nat.zero_le _)
    · rw [zero d]
      exact (key (Win.rowMajor.symm m) d).trans_lt (ix4 n k (cell i _) (cell j _) d).isLt
  · rw [← Equiv.sum_comp winEquiv, Fintype.sum_prod_type]
    rfl

end Cert.Hog
-- ==== Proof.Equation.lean ====
/-
  The equation: under the precondition's facts the kernel's histograms are the reference's. At every pixel both add the
  gradient's magnitude to the bin of its angle, and a cell's sum runs over the same pixels on both sides.
-/
module

public import proofs.«01_k».proof.Proof.KernelValue
public import proofs.«01_k».proof.Proof.PreFacts
public import proofs.«01_k».proof.Proof.Window

@[expose] public section

noncomputable section

namespace Cert.Hog

open Idealize.ShloMosaic Idealize.ShloMosaic.TcCoe Idealize.SL.Sem

open Cert.Pre_sobel_clear Cert.Pre_sobel_clear.Gen

/-- The kernel's histograms of all images are the reference's. -/
theorem equation (x : FVec Ideal S16x3x512x512 .f32) (u w : FVec Ideal S1x3x3x3 .f32)
    (h0 : (fn (F := Ideal) x u w).1 = fun _ => 1#1) (h1 : (fn (F := Ideal) x u w).2.1 = fun _ => 1#1)
    (h2 : (fn (F := Ideal) x u w).2.2.1 = fun _ => 1#1) (h3 : (fn (F := Ideal) x u w).2.2.2 = fun _ => 1#1) :
    histAll x = refHist (conv x u) (conv x w) := by
  have hx := imgs_apply h0
  have gx : ∀ n (r c : Fin 512), conv x u (ix4 n 0 r c) = ((gradX (imgs x n) r c : ℝ) : EReal) := fun n r c => by
    rw [conv_apply hx (wx_apply h1), convReal_sobelX]
  have gy : ∀ n (r c : Fin 512), conv x w (ix4 n 0 r c) = ((gradY (imgs x n) r c : ℝ) : EReal) := fun n r c => by
    rw [conv_apply hx (wy_apply h2), convReal_sobelY]
  have point : ∀ n k i j, histAll x (ix4 n k i j) = refHist (conv x u) (conv x w) (ix4 n k i j) := by
    intro n k i j
    have hv : ∀ ch r c, imageAt x n (ix4 0 ch r c) = ((imgs x n ch r c : ℝ) : EReal) := fun ch r c => hx n ch r c
    rw [refHist_apply, Finset.sum_comm]
    refine (hist_apply (bin (imageAt x n)) (mag (imageAt x n)) k i j).trans ?_
    refine Finset.sum_congr rfl fun c _ => Finset.sum_congr rfl fun a _ => ?_
    rw [oneHot_apply n k _ _ (gx n _ _) (gy n _ _) (gap_apply h3 n _ _ (gx n _ _) (gy n _ _)), bin_apply hv, mag_apply hv]
    refine if_congr ?_ rfl rfl
    rw [EReal.coe_eq_coe_iff, Nat.cast_inj]
  funext y
  rw [← ix4_eta y]
  exact point _ _ _ _

end Cert.Hog
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_sobel_clear
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore that could end above zero. -/
theorem frame_ref : quiescent_ReferenceIdeal (hReferenceIdeal := Cert.ReferenceIdeal.Gen.facts) := fun m ρ _ =>
  (θ_run Cert.ReferenceIdeal.defs _ _).mono (fun r h => And.intro (fun c => (h c).2) (sem_eq_zero_of_no_sems (by decide) r.2))
    (Cert.Hog.ref_run m ρ)

/-- Every claim: the generated frames, and for the value the two runs joined by the equation of the histograms. -/
theorem claim : Cert.Claim := ⟨Cert.Kernel.Gen.facts, Cert.KernelIdeal.Gen.facts, Cert.ReferenceIdeal.Gen.facts, Cert.Pre_sobel_clear.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial, trivial, by
  intro m g m' g' hpre hargs
  refine ⟨fun c => _, Cert.Hog.run m g, ?_⟩
  refine (θ_run Cert.ReferenceIdeal.defs _ _).mono (fun r h c => ⟨(h c).1.trans ?_, (h c).2⟩) (Cert.Hog.ref_run m' g')
  obtain ⟨e0, e1, e2⟩ := hargs c
  obtain ⟨h0, h1, h2, h3⟩ := hpre c
  rw [e0, e1, e2]
  exact congrArg (fun z => shapeCast Cert.KernelIdeal.S16x36864 z Cert.KernelIdeal.Gen.facts.shapeCasts_S16x9x64x64_S16x36864)
    (Cert.Hog.equation _ _ _ h0 h1 h2 h3).symm⟩

end Cert.Proof

end
